-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S8x4096x128 : Shape := ⟨3, ![8, 4096, 128]⟩
abbrev S256x2048 : Shape := ⟨2, ![256, 2048]⟩
abbrev S8x128 : Shape := ⟨2, ![8, 128]⟩
abbrev S16x8x128 : Shape := ⟨3, ![16, 8, 128]⟩
abbrev S8 : Shape := ⟨1, ![8]⟩
abbrev S16 : Shape := ⟨1, ![16]⟩
abbrev S_ : Shape := ⟨0, ![]⟩
abbrev S1 : Shape := ⟨1, ![1]⟩
abbrev S1x4096x128 : Shape := ⟨3, ![1, 4096, 128]⟩
abbrev S256x128 : Shape := ⟨2, ![256, 128]⟩
abbrev S128 : Shape := ⟨1, ![128]⟩
abbrev S1x128 : Shape := ⟨2, ![1, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S8x4096x128, .f32⟩
  | .local _ .vmem, ⟨3, _⟩ => ⟨S256x2048, .bf16⟩
  | .local _ .vmem, ⟨4, _⟩ => ⟨S4096x128, .bf16⟩
  | .local _ .vmem, ⟨5, _⟩ => ⟨S8x128, .f32⟩
  | .local _ .vmem, ⟨6, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c0_i32_61 : BitVec 32) : Fin 2 → Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c0_i32_61
  let c1_i32_62 : BitVec 32 := 1#32
  let v65 : BitVec 32 := Scalar.addi v64 c1_i32_62
  let c16_i32_63 : BitVec 32 := 16#32
  let v66 : BitVec 32 := Scalar.remsi v65 c16_i32_63
  let c128_i32 : BitVec 32 := 128#32
  let v67 : BitVec 32 := Scalar.muli v66 c128_i32
  ![0, v67.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v159 : BitVec 32 := Scalar.muli v2 c256_i32
  let c0_i32_152 : BitVec 32 := 0#32
  ![v159.toNat, 0]
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_124 : BitVec 32 := 0#32
  let v130 : BitVec 32 := Scalar.addi v2 c0_i32_124
  let c1_i32_125 : BitVec 32 := 1#32
  let v131 : BitVec 32 := Scalar.addi v130 c1_i32_125
  let c16_i32_126 : BitVec 32 := 16#32
  let v132 : BitVec 32 := Scalar.remsi v131 c16_i32_126
  let c1_i32_150 : BitVec 32 := 1#32
  let v160 : BitVec 32 := Scalar.muli v132 c1_i32_150
  let v161 : BitVec 32 := Scalar.addi c0_i32_151 v160
  v161.toNat
def k0_dev17 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_155 : BitVec 32 := 1#32
  let v168 : BitVec 32 := Scalar.addi v2 c1_i32_155
  let c1_i32_156 : BitVec 32 := 1#32
  let v169 : BitVec 32 := Scalar.addi v168 c1_i32_156
  let c16_i32_157 : BitVec 32 := 16#32
  let v170 : BitVec 32 := Scalar.remsi v169 c16_i32_157
  let c1_i32_181 : BitVec 32 := 1#32
  let v199 : BitVec 32 := Scalar.muli v170 c1_i32_181
  let v200 : BitVec 32 := Scalar.addi c0_i32_182 v199
  v200.toNat
def k0_dev18 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_186 : BitVec 32 := 2#32
  let v207 : BitVec 32 := Scalar.addi v2 c2_i32_186
  let c1_i32_187 : BitVec 32 := 1#32
  let v208 : BitVec 32 := Scalar.addi v207 c1_i32_187
  let c16_i32_188 : BitVec 32 := 16#32
  let v209 : BitVec 32 := Scalar.remsi v208 c16_i32_188
  let c1_i32_212 : BitVec 32 := 1#32
  let v238 : BitVec 32 := Scalar.muli v209 c1_i32_212
  let v239 : BitVec 32 := Scalar.addi c0_i32_213 v238
  v239.toNat
def k0_dev19 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_217 : BitVec 32 := 3#32
  let v246 : BitVec 32 := Scalar.addi v2 c3_i32_217
  let c1_i32_218 : BitVec 32 := 1#32
  let v247 : BitVec 32 := Scalar.addi v246 c1_i32_218
  let c16_i32_219 : BitVec 32 := 16#32
  let v248 : BitVec 32 := Scalar.remsi v247 c16_i32_219
  let c1_i32_243 : BitVec 32 := 1#32
  let v277 : BitVec 32 := Scalar.muli v248 c1_i32_243
  let v278 : BitVec 32 := Scalar.addi c0_i32_244 v277
  v278.toNat
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_247 : BitVec 32 := 4#32
  let v285 : BitVec 32 := Scalar.addi v2 c4_i32_247
  let c1_i32_248 : BitVec 32 := 1#32
  let v286 : BitVec 32 := Scalar.addi v285 c1_i32_248
  let c16_i32_249 : BitVec 32 := 16#32
  let v287 : BitVec 32 := Scalar.remsi v286 c16_i32_249
  let c1_i32_273 : BitVec 32 := 1#32
  let v316 : BitVec 32 := Scalar.muli v287 c1_i32_273
  let v317 : BitVec 32 := Scalar.addi c0_i32_274 v316
  v317.toNat
def k0_dev21 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_277 : BitVec 32 := 5#32
  let v324 : BitVec 32 := Scalar.addi v2 c5_i32_277
  let c1_i32_278 : BitVec 32 := 1#32
  let v325 : BitVec 32 := Scalar.addi v324 c1_i32_278
  let c16_i32_279 : BitVec 32 := 16#32
  let v326 : BitVec 32 := Scalar.remsi v325 c16_i32_279
  let c1_i32_303 : BitVec 32 := 1#32
  let v355 : BitVec 32 := Scalar.muli v326 c1_i32_303
  let v356 : BitVec 32 := Scalar.addi c0_i32_304 v355
  v356.toNat
def k0_dev22 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_307 : BitVec 32 := 6#32
  let v363 : BitVec 32 := Scalar.addi v2 c6_i32_307
  let c1_i32_308 : BitVec 32 := 1#32
  let v364 : BitVec 32 := Scalar.addi v363 c1_i32_308
  let c16_i32_309 : BitVec 32 := 16#32
  let v365 : BitVec 32 := Scalar.remsi v364 c16_i32_309
  let c1_i32_333 : BitVec 32 := 1#32
  let v394 : BitVec 32 := Scalar.muli v365 c1_i32_333
  let v395 : BitVec 32 := Scalar.addi c0_i32_334 v394
  v395.toNat
def k0_dev23 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_337 : BitVec 32 := 7#32
  let v402 : BitVec 32 := Scalar.addi v2 c7_i32_337
  let c1_i32_338 : BitVec 32 := 1#32
  let v403 : BitVec 32 := Scalar.addi v402 c1_i32_338
  let c16_i32_339 : BitVec 32 := 16#32
  let v404 : BitVec 32 := Scalar.remsi v403 c16_i32_339
  let c1_i32_363 : BitVec 32 := 1#32
  let v433 : BitVec 32 := Scalar.muli v404 c1_i32_363
  let v434 : BitVec 32 := Scalar.addi c0_i32_364 v433
  v434.toNat
def k0_off3 (d0 : Dev nD) : Fin 2 → Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_371 : BitVec 32 := 128#32
  let v445 : BitVec 32 := Scalar.muli v2 c128_i32_371
  ![0, v445.toNat]
def k0_dev24 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_367 : BitVec 32 := 8#32
  let v441 : BitVec 32 := Scalar.addi v2 c8_i32_367
  let c1_i32_368 : BitVec 32 := 1#32
  let v442 : BitVec 32 := Scalar.addi v441 c1_i32_368
  let c16_i32_369 : BitVec 32 := 16#32
  let v443 : BitVec 32 := Scalar.remsi v442 c16_i32_369
  let c1_i32_391 : BitVec 32 := 1#32
  let v469 : BitVec 32 := Scalar.muli v443 c1_i32_391
  let v470 : BitVec 32 := Scalar.addi c0_i32_392 v469
  v470.toNat
def k0_dev25 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_395 : BitVec 32 := 9#32
  let v477 : BitVec 32 := Scalar.addi v2 c9_i32_395
  let c1_i32_396 : BitVec 32 := 1#32
  let v478 : BitVec 32 := Scalar.addi v477 c1_i32_396
  let c16_i32_397 : BitVec 32 := 16#32
  let v479 : BitVec 32 := Scalar.remsi v478 c16_i32_397
  let c1_i32_413 : BitVec 32 := 1#32
  let v499 : BitVec 32 := Scalar.muli v479 c1_i32_413
  let v500 : BitVec 32 := Scalar.addi c0_i32_414 v499
  v500.toNat
def k0_dev26 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_417 : BitVec 32 := 10#32
  let v507 : BitVec 32 := Scalar.addi v2 c10_i32_417
  let c1_i32_418 : BitVec 32 := 1#32
  let v508 : BitVec 32 := Scalar.addi v507 c1_i32_418
  let c16_i32_419 : BitVec 32 := 16#32
  let v509 : BitVec 32 := Scalar.remsi v508 c16_i32_419
  let c1_i32_435 : BitVec 32 := 1#32
  let v529 : BitVec 32 := Scalar.muli v509 c1_i32_435
  let v530 : BitVec 32 := Scalar.addi c0_i32_436 v529
  v530.toNat
def k0_dev27 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_439 : BitVec 32 := 11#32
  let v537 : BitVec 32 := Scalar.addi v2 c11_i32_439
  let c1_i32_440 : BitVec 32 := 1#32
  let v538 : BitVec 32 := Scalar.addi v537 c1_i32_440
  let c16_i32_441 : BitVec 32 := 16#32
  let v539 : BitVec 32 := Scalar.remsi v538 c16_i32_441
  let c1_i32_457 : BitVec 32 := 1#32
  let v559 : BitVec 32 := Scalar.muli v539 c1_i32_457
  let v560 : BitVec 32 := Scalar.addi c0_i32_458 v559
  v560.toNat
def k0_dev28 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_461 : BitVec 32 := 12#32
  let v567 : BitVec 32 := Scalar.addi v2 c12_i32_461
  let c1_i32_462 : BitVec 32 := 1#32
  let v568 : BitVec 32 := Scalar.addi v567 c1_i32_462
  let c16_i32_463 : BitVec 32 := 16#32
  let v569 : BitVec 32 := Scalar.remsi v568 c16_i32_463
  let c1_i32_479 : BitVec 32 := 1#32
  let v589 : BitVec 32 := Scalar.muli v569 c1_i32_479
  let v590 : BitVec 32 := Scalar.addi c0_i32_480 v589
  v590.toNat
def k0_dev29 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_483 : BitVec 32 := 13#32
  let v597 : BitVec 32 := Scalar.addi v2 c13_i32_483
  let c1_i32_484 : BitVec 32 := 1#32
  let v598 : BitVec 32 := Scalar.addi v597 c1_i32_484
  let c16_i32_485 : BitVec 32 := 16#32
  let v599 : BitVec 32 := Scalar.remsi v598 c16_i32_485
  let c1_i32_501 : BitVec 32 := 1#32
  let v619 : BitVec 32 := Scalar.muli v599 c1_i32_501
  let v620 : BitVec 32 := Scalar.addi c0_i32_502 v619
  v620.toNat
def k0_dev30 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_505 : BitVec 32 := 14#32
  let v627 : BitVec 32 := Scalar.addi v2 c14_i32_505
  let c1_i32_506 : BitVec 32 := 1#32
  let v628 : BitVec 32 := Scalar.addi v627 c1_i32_506
  let c16_i32_507 : BitVec 32 := 16#32
  let v629 : BitVec 32 := Scalar.remsi v628 c16_i32_507
  let c1_i32_523 : BitVec 32 := 1#32
  let v649 : BitVec 32 := Scalar.muli v629 c1_i32_523
  let v650 : BitVec 32 := Scalar.addi c0_i32_524 v649
  v650.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_538 : BitVec 32 := 256#32
  let v672 : BitVec 32 := Scalar.muli v2 c256_i32_538
  let v673 : Index := Scalar.indexCast v672
  let c0_539 : Index := 0#32
  ![v673.toNat, 0]
def k0_dev31 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_547 : BitVec 32 := 1#32
  let v689 : BitVec 32 := Scalar.addi v2 c1_i32_547
  let c16_i32_548 : BitVec 32 := 16#32
  let v690 : BitVec 32 := Scalar.remsi v689 c16_i32_548
  let c1_i32_552 : BitVec 32 := 1#32
  let v691 : BitVec 32 := Scalar.muli v690 c1_i32_552
  let v692 : BitVec 32 := Scalar.addi c0_i32_553 v691
  v692.toNat
def k0_dev32 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_556 : BitVec 32 := 2#32
  let v699 : BitVec 32 := Scalar.addi v2 c2_i32_556
  let c16_i32_557 : BitVec 32 := 16#32
  let v700 : BitVec 32 := Scalar.remsi v699 c16_i32_557
  let c1_i32_561 : BitVec 32 := 1#32
  let v701 : BitVec 32 := Scalar.muli v700 c1_i32_561
  let v702 : BitVec 32 := Scalar.addi c0_i32_562 v701
  v702.toNat
def k0_dev33 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_565 : BitVec 32 := 3#32
  let v709 : BitVec 32 := Scalar.addi v2 c3_i32_565
  let c16_i32_566 : BitVec 32 := 16#32
  let v710 : BitVec 32 := Scalar.remsi v709 c16_i32_566
  let c1_i32_570 : BitVec 32 := 1#32
  let v711 : BitVec 32 := Scalar.muli v710 c1_i32_570
  let v712 : BitVec 32 := Scalar.addi c0_i32_571 v711
  v712.toNat
def k0_dev34 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_574 : BitVec 32 := 4#32
  let v719 : BitVec 32 := Scalar.addi v2 c4_i32_574
  let c16_i32_575 : BitVec 32 := 16#32
  let v720 : BitVec 32 := Scalar.remsi v719 c16_i32_575
  let c1_i32_579 : BitVec 32 := 1#32
  let v721 : BitVec 32 := Scalar.muli v720 c1_i32_579
  let v722 : BitVec 32 := Scalar.addi c0_i32_580 v721
  v722.toNat
def k0_dev35 (d0 : Dev nD) : Nat :=
  let c0_i32_589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_583 : BitVec 32 := 5#32
  let v729 : BitVec 32 := Scalar.addi v2 c5_i32_583
  let c16_i32_584 : BitVec 32 := 16#32
  let v730 : BitVec 32 := Scalar.remsi v729 c16_i32_584
  let c1_i32_588 : BitVec 32 := 1#32
  let v731 : BitVec 32 := Scalar.muli v730 c1_i32_588
  let v732 : BitVec 32 := Scalar.addi c0_i32_589 v731
  v732.toNat
def k0_dev36 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_592 : BitVec 32 := 6#32
  let v739 : BitVec 32 := Scalar.addi v2 c6_i32_592
  let c16_i32_593 : BitVec 32 := 16#32
  let v740 : BitVec 32 := Scalar.remsi v739 c16_i32_593
  let c1_i32_597 : BitVec 32 := 1#32
  let v741 : BitVec 32 := Scalar.muli v740 c1_i32_597
  let v742 : BitVec 32 := Scalar.addi c0_i32_598 v741
  v742.toNat
def k0_dev37 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_601 : BitVec 32 := 7#32
  let v749 : BitVec 32 := Scalar.addi v2 c7_i32_601
  let c16_i32_602 : BitVec 32 := 16#32
  let v750 : BitVec 32 := Scalar.remsi v749 c16_i32_602
  let c1_i32_606 : BitVec 32 := 1#32
  let v751 : BitVec 32 := Scalar.muli v750 c1_i32_606
  let v752 : BitVec 32 := Scalar.addi c0_i32_607 v751
  v752.toNat
def k0_dev38 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_610 : BitVec 32 := 8#32
  let v759 : BitVec 32 := Scalar.addi v2 c8_i32_610
  let c16_i32_611 : BitVec 32 := 16#32
  let v760 : BitVec 32 := Scalar.remsi v759 c16_i32_611
  let c1_i32_615 : BitVec 32 := 1#32
  let v761 : BitVec 32 := Scalar.muli v760 c1_i32_615
  let v762 : BitVec 32 := Scalar.addi c0_i32_616 v761
  v762.toNat
def k0_dev39 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_619 : BitVec 32 := 9#32
  let v769 : BitVec 32 := Scalar.addi v2 c9_i32_619
  let c16_i32_620 : BitVec 32 := 16#32
  let v770 : BitVec 32 := Scalar.remsi v769 c16_i32_620
  let c1_i32_624 : BitVec 32 := 1#32
  let v771 : BitVec 32 := Scalar.muli v770 c1_i32_624
  let v772 : BitVec 32 := Scalar.addi c0_i32_625 v771
  v772.toNat
def k0_dev40 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_628 : BitVec 32 := 10#32
  let v779 : BitVec 32 := Scalar.addi v2 c10_i32_628
  let c16_i32_629 : BitVec 32 := 16#32
  let v780 : BitVec 32 := Scalar.remsi v779 c16_i32_629
  let c1_i32_633 : BitVec 32 := 1#32
  let v781 : BitVec 32 := Scalar.muli v780 c1_i32_633
  let v782 : BitVec 32 := Scalar.addi c0_i32_634 v781
  v782.toNat
def k0_dev41 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_637 : BitVec 32 := 11#32
  let v789 : BitVec 32 := Scalar.addi v2 c11_i32_637
  let c16_i32_638 : BitVec 32 := 16#32
  let v790 : BitVec 32 := Scalar.remsi v789 c16_i32_638
  let c1_i32_642 : BitVec 32 := 1#32
  let v791 : BitVec 32 := Scalar.muli v790 c1_i32_642
  let v792 : BitVec 32 := Scalar.addi c0_i32_643 v791
  v792.toNat
def k0_dev42 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_646 : BitVec 32 := 12#32
  let v799 : BitVec 32 := Scalar.addi v2 c12_i32_646
  let c16_i32_647 : BitVec 32 := 16#32
  let v800 : BitVec 32 := Scalar.remsi v799 c16_i32_647
  let c1_i32_651 : BitVec 32 := 1#32
  let v801 : BitVec 32 := Scalar.muli v800 c1_i32_651
  let v802 : BitVec 32 := Scalar.addi c0_i32_652 v801
  v802.toNat
def k0_dev43 (d0 : Dev nD) : Nat :=
  let c0_i32_661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_655 : BitVec 32 := 13#32
  let v809 : BitVec 32 := Scalar.addi v2 c13_i32_655
  let c16_i32_656 : BitVec 32 := 16#32
  let v810 : BitVec 32 := Scalar.remsi v809 c16_i32_656
  let c1_i32_660 : BitVec 32 := 1#32
  let v811 : BitVec 32 := Scalar.muli v810 c1_i32_660
  let v812 : BitVec 32 := Scalar.addi c0_i32_661 v811
  v812.toNat
def k0_dev44 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_664 : BitVec 32 := 14#32
  let v819 : BitVec 32 := Scalar.addi v2 c14_i32_664
  let c16_i32_665 : BitVec 32 := 16#32
  let v820 : BitVec 32 := Scalar.remsi v819 c16_i32_665
  let c1_i32_669 : BitVec 32 := 1#32
  let v821 : BitVec 32 := Scalar.muli v820 c1_i32_669
  let v822 : BitVec 32 := Scalar.addi c0_i32_670 v821
  v822.toNat
def k0_dev45 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_673 : BitVec 32 := 15#32
  let v829 : BitVec 32 := Scalar.addi v2 c15_i32_673
  let c16_i32_674 : BitVec 32 := 16#32
  let v830 : BitVec 32 := Scalar.remsi v829 c16_i32_674
  let c1_i32_678 : BitVec 32 := 1#32
  let v831 : BitVec 32 := Scalar.muli v830 c1_i32_678
  let v832 : BitVec 32 := Scalar.addi c0_i32_679 v831
  v832.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ideal.Protocol.lean ====
/-
# The kernel's communication protocol

Sixteen devices; device `c`'s peer at distance `d` is `(c + d) mod 16`. Each device multiplies its 256 rows of `x`
with the sixteen column blocks of `w`, sends block `d - 1` of the product to its peer at distance `d`
(`d = 1, …, 15`) and keeps block 15, its own; then it sends everyone the maxima of its product's absolute values.

The semaphores of device `c`, as cells with rounds of duties:

* the barrier: fifteen duties `e = 1, …, 15` of one unit each, duty `e` paid by the peer at distance `e`, which hands
  over the places in its own memory that `c` will copy into: its rows of the landing buffer for `c`, and its
  slab of the landing array for maxima;
* `wS s` (`s < 8`, local copies of `w`'s blocks into slot `s`): two rounds of one duty each, the block `s`, then the
  block `s + 8`; the landing hands over the slot with the block in it;
* `dsendS d` and `drecvS d`: one duty each; the sender's hands its product block back, the receiver's hands over the
  rows of the landing buffer with the sender's product block in it;
* `asendS d` and `arecvS d`: the same for the maxima.

Order of waiting: local copies and sends at level 0, the barrier at level 1, landings at level 2.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' resource algebra, with natural numbers naming the duties. -/
abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Devices -/

/-- The device at distance `d` after `c`. -/
def peer (c : Dev nD) (d : ℕ) : Dev nD := ⟨(c.val + d) % 16, Nat.mod_lt _ (by decide)⟩

theorem peer_val (c : Dev nD) (d : ℕ) : (peer c d).val = (c.val + d) % 16 := rfl

theorem peer_back (c : Dev nD) {d : ℕ} (h : d ≤ 16) : peer (peer c d) (16 - d) = c :=
  Fin.ext (by have : c.val < 16 := c.isLt; simp only [peer_val]; omega)

theorem peer_back' (c : Dev nD) {d : ℕ} (h : d ≤ 16) : peer (peer c (16 - d)) d = c :=
  Fin.ext (by have : c.val < 16 := c.isLt; simp only [peer_val]; omega)

/-! ## Memrefs -/

abbrev xM : Memref sig .tc .vmem S256x4096 .f32 := Memref.whole cc0_stg0_0
abbrev wAll : Memref sig .tc .hbm S4096x2048 .f32 := Memref.whole main_arg1
abbrev oM : Memref sig .tc .vmem S4096x128 .f32 := Memref.whole cc0_stg1_0
abbrev slots : Memref sig .tc .vmem S8x4096x128 .f32 := Memref.whole cc0_scratch0
abbrev ysAll : Memref sig .tc .vmem S256x2048 .bf16 := Memref.whole cc0_scratch1
abbrev rcvAll : Memref sig .tc .vmem S4096x128 .bf16 := Memref.whole cc0_scratch2
abbrev amSrc : Memref sig .tc .vmem S8x128 .f32 := Memref.whole cc0_scratch3
abbrev amAll : Memref sig .tc .vmem S16x8x128 .f32 := Memref.whole cc0_scratch4

theorem wR_inb (j : ℕ) : ∀ a, (![0, (j % 16) * 128] : Fin 2 → Nat) a + S4096x128.size a ≤ S4096x2048.size a := by
  have := Nat.mod_lt j (show 0 < 16 by decide)
  intro a; fin_cases a
  · exact (by decide : 0 + 4096 ≤ 4096)
  · show (j % 16) * 128 + 128 ≤ 2048; omega

theorem slotR_inb (t : ℕ) : ∀ a, (![t % 8, 0, 0] : Fin 3 → Nat) a + S1x4096x128.size a ≤ S8x4096x128.size a := by
  have := Nat.mod_lt t (show 0 < 8 by decide)
  intro a; fin_cases a
  · show t % 8 + 1 ≤ 8; omega
  · exact (by decide : 0 + 4096 ≤ 4096)
  · exact (by decide : 0 + 128 ≤ 128)

theorem ysR_inb (u : ℕ) : ∀ a, (![0, (u % 16) * 128] : Fin 2 → Nat) a + S256x128.size a ≤ S256x2048.size a := by
  have := Nat.mod_lt u (show 0 < 16 by decide)
  intro a; fin_cases a
  · exact (by decide : 0 + 256 ≤ 256)
  · show (u % 16) * 128 + 128 ≤ 2048; omega

theorem rcvR_inb (s : ℕ) : ∀ a, (![(s % 16) * 256, 0] : Fin 2 → Nat) a + S256x128.size a ≤ S4096x128.size a := by
  have := Nat.mod_lt s (show 0 < 16 by decide)
  intro a; fin_cases a
  · show (s % 16) * 256 + 256 ≤ 4096; omega
  · exact (by decide : 0 + 128 ≤ 128)

theorem amR_inb (d : ℕ) : ∀ a, (![d % 16, 0, 0] : Fin 3 → Nat) a + S1x8x128.size a ≤ S16x8x128.size a := by
  have := Nat.mod_lt d (show 0 < 16 by decide)
  intro a; fin_cases a
  · show d % 16 + 1 ≤ 16; omega
  · exact (by decide : 0 + 8 ≤ 8)
  · exact (by decide : 0 + 128 ≤ 128)

/-- The column block `j` of `w`; -/
abbrev wR (j : ℕ) : Rect S4096x2048 := Rect.unit (s := S4096x2048) ![0, (j % 16) * 128] S4096x128.size (wR_inb j)
/-- the slot of the block `t`; -/
abbrev slotR (t : ℕ) : Rect S8x4096x128 := Rect.unit (s := S8x4096x128) ![t % 8, 0, 0] S1x4096x128.size (slotR_inb t)
/-- the product block `u` as it is sent; -/
abbrev ysR (u : ℕ) : Rect S256x2048 := Rect.unit (s := S256x2048) ![0, (u % 16) * 128] S256x128.size (ysR_inb u)
/-- the landing rows for device `s`; -/
abbrev rcvR (s : ℕ) : Rect S4096x128 := Rect.unit (s := S4096x128) ![(s % 16) * 256, 0] S256x128.size (rcvR_inb s)
/-- the landing slab of distance `d`. -/
abbrev amR (d : ℕ) : Rect S16x8x128 := Rect.unit (s := S16x8x128) ![d % 16, 0, 0] S1x8x128.size (amR_inb d)

abbrev wM (j : ℕ) : Memref sig .tc .hbm S4096x128 .f32 := wAll.slice (wR j) (fun _ => rfl)
abbrev slot3 (t : ℕ) : Memref sig .tc .vmem S1x4096x128 .f32 := slots.slice (slotR t) (fun _ => rfl)
abbrev slotM (t : ℕ) : Memref sig .tc .vmem S4096x128 .f32 := (slot3 t).squeeze S4096x128 squeezes_S1x4096x128_S4096x128
abbrev ysM (u : ℕ) : Memref sig .tc .vmem S256x128 .bf16 := ysAll.slice (ysR u) (fun _ => rfl)
abbrev rcvM (s : ℕ) : Memref sig .tc .vmem S256x128 .bf16 := rcvAll.slice (rcvR s) (fun _ => rfl)
abbrev am3 (d : ℕ) : Memref sig .tc .vmem S1x8x128 .f32 := amAll.slice (amR d) (fun _ => rfl)
abbrev amM (d : ℕ) : Memref sig .tc .vmem S8x128 .f32 := (am3 d).squeeze S8x128 squeezes_S1x8x128_S8x128

/-! ## Semaphores -/

abbrev barS : Sem sig := (SemArray.scalar (sig.barrier 0 rfl) : Sems sig S_).sem

/-- The five families of the kernel's own semaphores. -/
def wS (t : ℕ) : DmaSem sig := ⟨2 + t % 8, by have := Nat.mod_lt t (show 0 < 8 by decide); show _ < 74; omega⟩
def dsendS (d : ℕ) : DmaSem sig := ⟨10 + d % 16, by have := Nat.mod_lt d (show 0 < 16 by decide); show _ < 74; omega⟩
def drecvS (d : ℕ) : DmaSem sig := ⟨26 + d % 16, by have := Nat.mod_lt d (show 0 < 16 by decide); show _ < 74; omega⟩
def asendS (d : ℕ) : DmaSem sig := ⟨42 + d % 16, by have := Nat.mod_lt d (show 0 < 16 by decide); show _ < 74; omega⟩
def arecvS (d : ℕ) : DmaSem sig := ⟨58 + d % 16, by have := Nat.mod_lt d (show 0 < 16 by decide); show _ < 74; omega⟩

theorem wS_val (t : ℕ) : (wS t).val = 2 + t % 8 := rfl
theorem dsendS_val (d : ℕ) : (dsendS d).val = 10 + d % 16 := rfl
theorem drecvS_val (d : ℕ) : (drecvS d).val = 26 + d % 16 := rfl
theorem asendS_val (d : ℕ) : (asendS d).val = 42 + d % 16 := rfl
theorem arecvS_val (d : ℕ) : (arecvS d).val = 58 + d % 16 := rfl

abbrev barC (c : Dev nD) : GSem nD τ sig := ((c : Thread nD τ), .reg barS)
abbrev dmaC (c : Dev nD) (s : DmaSem sig) : GSem nD τ sig := ((c : Thread nD τ), .dma s)

/-! ## Amounts -/

/-- What a landing of a block of `w` credits; -/
def Nw : ℕ := (slotM 0).view.dmaCredit
/-- of a product block; -/
def Nd : ℕ := (rcvM 0).view.dmaCredit
/-- of the maxima. -/
def Na : ℕ := (amM 0).view.dmaCredit

theorem Nw_pos : 0 < Nw := View.dmaCredit_pos _ (by decide)
theorem Nd_pos : 0 < Nd := View.dmaCredit_pos _ (by decide)
theorem Na_pos : 0 < Na := View.dmaCredit_pos _ (by decide)

theorem slot_credit (t : ℕ) : (slotM t).view.dmaCredit = Nw := rfl
theorem rcv_credit (s : ℕ) : (rcvM s).view.dmaCredit = Nd := rfl
theorem am_credit (d : ℕ) : (amM d).view.dmaCredit = Na := rfl
theorem ys_credit (u : ℕ) : (ysM u).view.dmaCredit = Nd := by rfl
theorem amSrc_credit : amSrc.view.dmaCredit = Na := by rfl

theorem slot_amount (t : ℕ) (X : DmaSem sig) : (slotM t).view.amount (.dma X) = Nw := rfl
theorem rcv_amount (s : ℕ) (X : DmaSem sig) : (rcvM s).view.amount (.dma X) = Nd := rfl
theorem am_amount (d : ℕ) (X : DmaSem sig) : (amM d).view.amount (.dma X) = Na := rfl

attribute [irreducible] Nw Nd Na

/-! ## Contents -/

/-- Device `c`'s rows of `x`, as staged; -/
def xstg (c : Dev nD) : (cc0_stg0_0 : Ref sig .tc).ty.Contents (Elt F) :=
  (win0_0.blk (0 : Fin 1)).view.read (Elt F) (m ((c : Thread nD τ).loc main_arg0))
/-- its copy of `w`; -/
def wArr (c : Dev nD) : Buf (Elt F) (wAll.view.loc (c : Thread nD τ)) := m ((c : Thread nD τ).loc main_arg1)
/-- the column block of `w` it works on at step `t`: the one that belongs to its peer at distance `t + 1`; -/
def wblk (c : Dev nD) (t : ℕ) : FVec F S4096x128 .f32 := (wM (c.val + t + 1)).view.read (Elt F) (wArr m c)
/-- the same as it lies in its slot. -/
def wld (c : Dev nD) (t : ℕ) : Vec F S1x4096x128 .f32 :=
  fun j => wblk m c t ((Shape.reshapeEquiv (Shape.Squeezes.numel_eq squeezes_S1x4096x128_S4096x128)).symm j)

/-- `x` rounded; -/
def xb (c : Dev nD) : FVec F S256x4096 .bf16 := k0_pay1 (xstg m c)
/-- the product block of step `t`, rounded; -/
def yblk (c : Dev nD) (t : ℕ) : FVec F S256x128 .bf16 := k0_pay4 (xb m c) (wld m c t)
/-- the columns' maxima of the product's absolute values after step `t`; -/
def vmx (c : Dev nD) : ℕ → FVec F S1x128 .f32
  | 0 => k0_pay3 (xb m c) (wld m c 0)
  | t + 1 => k0_pay10 (xb m c) (vmx c t) (wld m c (t + 1))
/-- the maxima as they are sent, -/
def amx (c : Dev nD) : FVec F S8x128 .f32 := k0_pay52 (xb m c) (vmx m c 14) (wld m c 15)
/-- as they lie in a landing slab, -/
def amx3 (c : Dev nD) : Vec F S1x8x128 .f32 :=
  fun j => amx m c ((Shape.reshapeEquiv (Shape.Squeezes.numel_eq squeezes_S1x8x128_S8x128)).symm j)
/-- and as the device stores its own. -/
def amxOwn (c : Dev nD) : Vec F S1x8x128 .f32 := k0_pay53 (xb m c) (vmx m c 14) (wld m c 15)

/-- What device `s` computes for device `c`. -/
def yfor (s c : Dev nD) : FVec F S256x128 .bf16 := yblk m s ((c.val + 31 - s.val) % 16)

theorem yfor_peer (c : Dev nD) {d : ℕ} (h1 : 1 ≤ d) (h2 : d ≤ 16) : yfor m c (peer c d) = yblk m c (d - 1) := by
  unfold yfor
  have hc : c.val < 16 := c.isLt
  congr 1
  rw [peer_val]; omega

/-! ## Resources -/

/-- The elements `M` places on device `c`, with whatever they hold. -/
def anyOf (c : Dev nD) {sp : Space} {sh : Shape} {e : EltTy} (M : Memref sig .tc sp sh e) : sProp 𝕄 :=
  iprop(∃ f, M.view.loc (c : Thread nD τ) ↦[M.view.set]{fullShare} f)

omit [FloatOps F] in
instance anyOf_storable (c : Dev nD) {sp : Space} {sh : Shape} {e : EltTy} (M : Memref sig .tc sp sh e) :
    BI.Storable (upEmb : UEmb _ 𝕄) (anyOf (F := F) c M) := by unfold anyOf; infer_instance

omit [FloatOps F] in
theorem anyOf_of_owns (c : Dev nD) {sp : Space} {sh : Shape} {e : EltTy} (M : Memref sig .tc sp sh e) (X : sh.Idx → Elt F e) :
    (owns (c : Thread nD τ) M fullShare X : sProp 𝕄) ⊢ anyOf c M := by
  unfold owns anyOf
  iintro ⟨%f, -, H⟩
  iexists f; iexact H

/-- The share of the maxima the copy at distance `d` reads. -/
def amTok (d : ℕ) : PosShare TreeShare := Transfers.shareTokN fullShare (d - 1)

/-- What the payer of duty `e`, the peer at distance `e`, hands over at the barrier: its places for `c`'s copies. -/
def barPay (c : Dev nD) (e : ℕ) : sProp 𝕄 := iprop(anyOf (peer c e) (rcvM c.val) ∗ anyOf (peer c e) (amM e))
/-- The slot with the block of step `t` in it. -/
def wPay (c : Dev nD) (t : ℕ) : sProp 𝕄 := owns (c : Thread nD τ) (slot3 t) fullShare (wld m c t)
/-- The sent product block back. -/
def dsPay (c : Dev nD) (d : ℕ) : sProp 𝕄 := anyOf c (ysM (d - 1))
/-- The rows from the device `d` before `c`, landed. -/
def drPay (c : Dev nD) (d : ℕ) : sProp 𝕄 :=
  owns (c : Thread nD τ) (rcvM (peer c (16 - d)).val) fullShare (yfor m (peer c (16 - d)) c)
/-- The read share of the sent maxima back. -/
def asPay (c : Dev nD) (d : ℕ) : sProp 𝕄 :=
  (amSrc.view.loc (c : Thread nD τ) ↦[amSrc.view.set]{amTok d} (amx m c))
/-- The maxima of the device `d` before `c`, landed. -/
def arPay (c : Dev nD) (d : ℕ) : sProp 𝕄 := owns (c : Thread nD τ) (am3 d) fullShare (amx3 m (peer c (16 - d)))

/-! ## The schedule -/

/-- The duties of the semaphore number `n` in round `r`. -/
def dmaDuties (n r : ℕ) : Finset ℕ :=
  if n < 10 then (if 2 ≤ n ∧ r < 2 then {0} else ∅) else if (n - 10) % 16 ≠ 0 ∧ r = 0 then {0} else ∅

def dmaAmount (n : ℕ) : ℕ := if n < 10 then Nw else if n < 42 then Nd else Na

def dmaPay (c : Dev nD) (n r : ℕ) : sProp 𝕄 :=
  if n < 10 then wPay m c (n - 2 + 8 * r)
  else if n < 26 then dsPay c (n - 10)
  else if n < 42 then drPay m c (n - 26)
  else if n < 58 then asPay m c (n - 42)
  else arPay m c (n - 58)

def Rd : Rounds.Schedule (GSem nD τ sig) ℕ 𝕄 where
  duties g r :=
    if g.1.2 = .tc then
      match g.2 with
      | .reg _ => if r = 0 then Finset.Ico 1 16 else ∅
      | .dma s => dmaDuties s.val r
    else ∅
  unitless _ := False
  amount g _ _ :=
    match g.2 with
    | .reg _ => 1
    | .dma s => dmaAmount s.val
  payload g r e :=
    match g.2 with
    | .reg _ => barPay g.1.1 e
    | .dma s => dmaPay m g.1.1 s.val r
  amount_pos g _ _ _ := by
    rcases g with ⟨g1, g2⟩
    cases g2 with
    | reg _ => exact Nat.one_pos
    | dma s =>
      show 0 < dmaAmount s.val
      unfold dmaAmount
      have h1 := Nw_pos; have h2 := Nd_pos; have h3 := Na_pos
      (repeat' split) <;> assumption

instance Rd_payload_storable (g : GSem nD τ sig) (r : ℕ) (e : ℕ) :
    BI.Storable (upEmb : UEmb _ 𝕄) ((Rd (F := F) m).payload g r e) := by
  rcases g with ⟨g1, g2⟩
  cases g2 with
  | reg _ =>
    show BI.Storable upEmb (barPay g1.1 e)
    unfold barPay; infer_instance
  | dma s =>
    show BI.Storable upEmb (dmaPay m g1.1 s.val r)
    unfold dmaPay wPay dsPay drPay asPay arPay
    (repeat' split) <;> infer_instance

section Sched
variable (c : Dev nD)

theorem duties_bar : (Rd (F := F) m).duties (barC c) 0 = Finset.Ico 1 16 := rfl
theorem amount_bar (e : ℕ) : (Rd (F := F) m).amount (barC c) 0 e = 1 := rfl
theorem payload_bar (e : ℕ) : (Rd (F := F) m).payload (barC c) 0 e = barPay c e := rfl
theorem expect_bar : (Rd (F := F) m).expect (barC c) 0 = 15 := by
  unfold Schedule.expect Schedule.amountOf
  rw [duties_bar, Finset.sum_congr rfl fun d _ => amount_bar m c d, Finset.sum_const, Nat.card_Ico, smul_eq_mul]

/-- A semaphore in use has one duty in the round, -/
theorem duties_dma (s : DmaSem sig) (r : ℕ) (h : dmaDuties s.val r = {0}) : (Rd (F := F) m).duties (dmaC c s) r = {0} := h
theorem amount_dma (s : DmaSem sig) (r : ℕ) (e : ℕ) : (Rd (F := F) m).amount (dmaC c s) r e = dmaAmount s.val := rfl
theorem payload_dma (s : DmaSem sig) (r : ℕ) (e : ℕ) : (Rd (F := F) m).payload (dmaC c s) r e = dmaPay m c s.val r := rfl
theorem expect_dma (s : DmaSem sig) (r : ℕ) (h : dmaDuties s.val r = {0}) :
    (Rd (F := F) m).expect (dmaC c s) r = dmaAmount s.val := by
  unfold Schedule.expect Schedule.amountOf; rw [duties_dma m c s r h, Finset.sum_singleton, amount_dma]
/-- which is the whole round's payload. -/
theorem rest_dma (s : DmaSem sig) (r : ℕ) (h : dmaDuties s.val r = {0}) :
    bigSep ((Rd (F := F) m).duties (dmaC c s) r \ ∅) (fun d => (Rd (F := F) m).payload (dmaC c s) r d) = dmaPay m c s.val r := by
  rw [Finset.sdiff_empty, duties_dma m c s r h, bigSep_singleton, payload_dma]

theorem duties_wS {t : ℕ} (h : t < 16) : dmaDuties (wS t).val (t / 8) = {0} := by
  unfold dmaDuties; rw [wS_val]
  have := Nat.mod_lt t (show 0 < 8 by decide)
  rw [if_pos (show 2 + t % 8 < 10 by omega), if_pos ⟨by omega, by omega⟩]
theorem duties_dsendS {d : ℕ} (h1 : 1 ≤ d) (h : d < 16) : dmaDuties (dsendS d).val 0 = {0} := by
  unfold dmaDuties; rw [dsendS_val]
  rw [if_neg (show ¬ 10 + d % 16 < 10 by omega), if_pos ⟨by omega, rfl⟩]
theorem duties_drecvS {d : ℕ} (h1 : 1 ≤ d) (h : d < 16) : dmaDuties (drecvS d).val 0 = {0} := by
  unfold dmaDuties; rw [drecvS_val]
  rw [if_neg (show ¬ 26 + d % 16 < 10 by omega), if_pos ⟨by omega, rfl⟩]
theorem duties_asendS {d : ℕ} (h1 : 1 ≤ d) (h : d < 16) : dmaDuties (asendS d).val 0 = {0} := by
  unfold dmaDuties; rw [asendS_val]
  rw [if_neg (show ¬ 42 + d % 16 < 10 by omega), if_pos ⟨by omega, rfl⟩]
theorem duties_arecvS {d : ℕ} (h1 : 1 ≤ d) (h : d < 16) : dmaDuties (arecvS d).val 0 = {0} := by
  unfold dmaDuties; rw [arecvS_val]
  rw [if_neg (show ¬ 58 + d % 16 < 10 by omega), if_pos ⟨by omega, rfl⟩]

theorem amount_wS (t : ℕ) : dmaAmount (wS t).val = Nw := by
  unfold dmaAmount; rw [wS_val]; have := Nat.mod_lt t (show 0 < 8 by decide); exact if_pos (by omega)
theorem amount_dsendS (d : ℕ) : dmaAmount (dsendS d).val = Nd := by
  unfold dmaAmount; rw [dsendS_val]; have := Nat.mod_lt d (show 0 < 16 by decide)
  rw [if_neg (by omega), if_pos (by omega)]
theorem amount_drecvS (d : ℕ) : dmaAmount (drecvS d).val = Nd := by
  unfold dmaAmount; rw [drecvS_val]; have := Nat.mod_lt d (show 0 < 16 by decide)
  rw [if_neg (by omega), if_pos (by omega)]
theorem amount_asendS (d : ℕ) : dmaAmount (asendS d).val = Na := by
  unfold dmaAmount; rw [asendS_val]; have := Nat.mod_lt d (show 0 < 16 by decide)
  rw [if_neg (by omega), if_neg (by omega)]
theorem amount_arecvS (d : ℕ) : dmaAmount (arecvS d).val = Na := by
  unfold dmaAmount; rw [arecvS_val]; have := Nat.mod_lt d (show 0 < 16 by decide)
  rw [if_neg (by omega), if_neg (by omega)]

theorem pay_wS (t : ℕ) : dmaPay m c (wS t).val (t / 8) = wPay m c t := by
  unfold dmaPay; rw [wS_val]; have := Nat.mod_lt t (show 0 < 8 by decide)
  rw [if_pos (by omega), show 2 + t % 8 - 2 + 8 * (t / 8) = t by omega]
theorem pay_dsendS {d : ℕ} (h : d < 16) (r : ℕ) : dmaPay m c (dsendS d).val r = dsPay c d := by
  unfold dmaPay; rw [dsendS_val]
  rw [if_neg (by omega), if_pos (by omega), show 10 + d % 16 - 10 = d by omega]
theorem pay_drecvS {d : ℕ} (h : d < 16) (r : ℕ) : dmaPay m c (drecvS d).val r = drPay m c d := by
  unfold dmaPay; rw [drecvS_val]
  rw [if_neg (by omega), if_neg (by omega), if_pos (by omega), show 26 + d % 16 - 26 = d by omega]
theorem pay_asendS {d : ℕ} (h : d < 16) (r : ℕ) : dmaPay m c (asendS d).val r = asPay m c d := by
  unfold dmaPay; rw [asendS_val]
  rw [if_neg (by omega), if_neg (by omega), if_neg (by omega), if_pos (by omega), show 42 + d % 16 - 42 = d by omega]
theorem pay_arecvS {d : ℕ} (h : d < 16) (r : ℕ) : dmaPay m c (arecvS d).val r = arPay m c d := by
  unfold dmaPay; rw [arecvS_val]
  rw [if_neg (by omega), if_neg (by omega), if_neg (by omega), if_neg (by omega), show 58 + d % 16 - 58 = d by omega]

end Sched

/-! ## What is owed, and the levels -/

theorem ico_eq_insert {a b : ℕ} (h : a < b) : Finset.Ico a b = insert a (Finset.Ico (a + 1) b) := by
  ext x; simp only [Finset.mem_insert, Finset.mem_Ico]; omega
theorem ico_head_notMem (a b : ℕ) : a ∉ Finset.Ico (a + 1) b := by
  simp only [Finset.mem_Ico]; omega
theorem sum_ico_head {M : Type} [AddCommMonoid M] {a b : ℕ} (h : a < b) (f : ℕ → M) :
    ∑ d ∈ Finset.Ico a b, f d = f a + ∑ d ∈ Finset.Ico (a + 1) b, f d := by
  rw [ico_eq_insert h, Finset.sum_insert (ico_head_notMem a b)]

/-- What device `c` still owes after `a` signals, `n` copies of product blocks and `g` of maxima. -/
def owing (c : Dev nD) (a n g : ℕ) : CellTallies nD τ sig Unit :=
  (∑ d ∈ Finset.Ico (a + 1) 16, tallyAt (barC (peer c d)) () 1)
    + (∑ d ∈ Finset.Ico (n + 1) 16, tallyAt (dmaC (peer c d) (drecvS d)) () Nd)
    + ∑ d ∈ Finset.Ico (g + 1) 16, tallyAt (dmaC (peer c d) (arecvS d)) () Na

theorem owing_signal (c : Dev nD) {a : ℕ} (n g : ℕ) (h : a < 15) :
    owing c a n g = owing c (a + 1) n g + tallyAt (barC (peer c (a + 1))) () 1 := by
  unfold owing
  rw [sum_ico_head (show a + 1 < 16 by omega)]
  ac_rfl
theorem owing_send (c : Dev nD) {n : ℕ} (a g : ℕ) (h : n < 15) :
    owing c a n g = owing c a (n + 1) g + tallyAt (dmaC (peer c (n + 1)) (drecvS (n + 1))) () Nd := by
  unfold owing
  rw [sum_ico_head (show n + 1 < 16 by omega)]
  ac_rfl
theorem owing_max (c : Dev nD) {g : ℕ} (a n : ℕ) (h : g < 15) :
    owing c a n g = owing c a n (g + 1) + tallyAt (dmaC (peer c (g + 1)) (arecvS (g + 1))) () Na := by
  unfold owing
  rw [sum_ico_head (show g + 1 < 16 by omega)]
  ac_rfl
theorem owing_done (c : Dev nD) : owing c 15 15 15 = 0 := by
  unfold owing; simp only [Finset.Ico_self, Finset.sum_empty, add_zero]

def L (g : GSem nD τ sig) : Finset Unit := if g.1.2 = .tc then {()} else ∅
/-- Barriers at 1, landings from other devices at 2, everything else at 0. -/
def lv (g : GSem nD τ sig) (_ : Unit) : ℕ :=
  match g.2 with
  | .reg _ => 1
  | .dma s => if (26 ≤ s.val ∧ s.val < 42) ∨ 58 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_drecvS (c : Dev nD) (d : ℕ) : lv (dmaC c (drecvS d)) () = 2 := by
  have := Nat.mod_lt d (show 0 < 16 by decide)
  exact if_pos (Or.inl ⟨by show 26 ≤ 26 + d % 16; omega, by show 26 + d % 16 < 42; omega⟩)
theorem lv_arecvS (c : Dev nD) (d : ℕ) : lv (dmaC c (arecvS d)) () = 2 :=
  if_pos (Or.inr (by show 58 ≤ 58 + d % 16; omega))

/-- What is owed lies on barriers (while signals are due) and on landings. -/
theorem owing_pos {c : Dev nD} {a n g : ℕ} {x : GSem nD τ sig} {u : Unit} (h : 0 < owing c a n g x u) :
    (∃ c' sm, x = ((Dev.tc c' : Thread nD τ), sm)) ∧ ((a < 15 ∧ lv x u = 1) ∨ lv x u = 2) := by
  unfold owing at h
  simp only [Pi.add_apply, Finsupp.add_apply, Finset.sum_apply, Finsupp.finset_sum_apply, tallyAt_apply] at h
  by_contra hn
  have z : ∀ (lo N : ℕ) (k : ℕ → GSem nD τ sig)
      (hk : ∀ d ∈ Finset.Ico lo 16, (∃ c' sm, k d = ((Dev.tc c' : Thread nD τ), sm)) ∧ ((a < 15 ∧ lv (k d) () = 1) ∨ lv (k d) () = 2)),
      ∑ d ∈ Finset.Ico lo 16, (if x = k d ∧ True then N else 0) = 0 := fun lo N k hk =>
    Finset.sum_eq_zero fun d hd => if_neg fun ⟨hx, _⟩ => hn (by subst hx; exact hk d hd)
  rw [z (a + 1) 1 (fun d => barC (peer c d)) (fun d hd => ⟨⟨_, _, rfl⟩, Or.inl ⟨by have := Finset.mem_Ico.mp hd; omega, rfl⟩⟩),
    z (n + 1) Nd (fun d => dmaC (peer c d) (drecvS d)) (fun d _ => ⟨⟨_, _, rfl⟩, Or.inr (lv_drecvS _ _)⟩),
    z (g + 1) Na (fun d => dmaC (peer c d) (arecvS d)) (fun d _ => ⟨⟨_, _, rfl⟩, Or.inr (lv_arecvS _ _)⟩)] at h
  exact Nat.lt_irrefl 0 h

/-- The levels, as everyone knows them. -/
def levs : sProp 𝕄 := levAts L lv
instance levs_persistent : BI.Persistent (levs (F := F)) := by unfold levs; infer_instance

/-- A wait is allowed below everything still owed. -/
theorem mayWait_of (c : Dev nD) (sm : SemLoc sig) (a n g k : ℕ) (hk : lv ((c : Thread nD τ), sm) () ≤ k)
    (hlt : ∀ x u, 0 < owing c a n g x u → k < lv x u) :
    levs (F := F) ⊢ MayWait (c : Thread nD τ) sm () (owing c a n g) :=
  MayOwe.of_cut (L := L) (lev := lv) k (fun p hp => by rw [Finset.mem_singleton.mp hp, L_tc]; exact Finset.mem_singleton_self _)
    (fun x u hx => by
      obtain ⟨⟨c', sm', rfl⟩, -⟩ := owing_pos hx
      rw [L_tc]; exact Finset.mem_singleton_self _)
    (fun p hp => by rw [Finset.mem_singleton.mp hp]; exact hk)
    hlt

/-- A wait at level 0 is always allowed; -/
theorem mayWait_low (c : Dev nD) (s : DmaSem sig) (a n g : ℕ) (h : lv (dmaC c s) () = 0) :
    levs (F := F) ⊢ MayWait (c : Thread nD τ) (.dma s) () (owing c a n g) :=
  mayWait_of c _ a n g 0 h.le fun x u hx => by rcases (owing_pos hx).2 with h | h <;> omega
/-- the barrier's once all signals are sent. -/
theorem mayWait_bar (c : Dev nD) (n g : ℕ) :
    levs (F := F) ⊢ MayWait (c : Thread nD τ) (.reg barS) () (owing c 15 n g) :=
  mayWait_of c _ 15 n g 1 le_rfl fun x u hx => by rcases (owing_pos hx).2 with h | h <;> omega

end Cert.KernelIdealProof

end
-- ==== Proof.Ideal.State.lean ====
/-
# What a device holds while it runs the kernel

`St` describes device `c` between two operations by counters: how many signals it has sent, how many copies of `w`'s
blocks it has started and waited for, how many product blocks it has stored, sent, received, and so on. Every
operation of the kernel moves one counter (`Steps.lean`).
-/
module

public import proofs.«01_k».proof.Proof.Ideal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Iterated separating conjunctions over intervals -/

omit [FloatOps F] in
/-- The first conjunct split off; -/
theorem ico_head {a b : ℕ} (h : a < b) (Φ : ℕ → sProp 𝕄) :
    bigSep (Finset.Ico a b) Φ = iprop(Φ a ∗ bigSep (Finset.Ico (a + 1) b) Φ) := by
  rw [ico_eq_insert h, bigSep_insert (ico_head_notMem a b)]; rfl
omit [FloatOps F] in
/-- the last one. -/
theorem ico_last {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp only [Finset.mem_Ico]; omega)]; rfl
omit [FloatOps F] in
theorem ico_none {a b : ℕ} (h : b ≤ a) (Φ : ℕ → sProp 𝕄) : bigSep (Finset.Ico a b) Φ = iprop(emp) := by
  rw [Finset.Ico_eq_empty (by omega), bigSep_empty]; rfl

/-! ## What everyone knows -/

/-- The semaphores of the protocol: the 72 own ones and the barrier. -/
def csem (k : Fin 73) : SemLoc sig := if h : k.val < 72 then .dma ⟨2 + k.val, by show _ < 74; omega⟩ else .reg barS
abbrev kcell (ck : Dev nD × Fin 73) : GSem nD τ sig := ((ck.1 : Thread nD τ), csem ck.2)

theorem csem_dma (s : DmaSem sig) (h : 2 ≤ s.val) : csem ⟨s.val - 2, by have : s.val < 74 := s.isLt; omega⟩ = .dma s := by
  have : s.val < 74 := s.isLt
  unfold csem; rw [dif_pos (show s.val - 2 < 72 by omega)]
  exact congrArg _ (Fin.ext (show 2 + (s.val - 2) = s.val by omega))
theorem csem_bar : csem ⟨72, by decide⟩ = .reg barS := by
  unfold csem; exact dif_neg (by decide)

/-- A cell's invariant, and that it has reached its first round. -/
def knows (g : GSem nD τ sig) : sProp 𝕄 := iprop((∃ κ : ℕ, cellInv ER (Rd m) κ g) ∗ reached ER g 0)
instance knows_persistent (g : GSem nD τ sig) : BI.Persistent (knows (F := F) m g) := by unfold knows; infer_instance

/-- Every cell of the protocol on every device, and the levels. -/
def env : sProp 𝕄 := iprop((bigSep Finset.univ fun ck : Dev nD × Fin 73 => knows m (kcell ck)) ∗ levs (F := F))
instance env_persistent : BI.Persistent (env (F := F) m) := by unfold env; infer_instance

theorem env_cell (ck : Dev nD × Fin 73) : env (F := F) m ⊢ knows m (kcell ck) := by
  have h : (bigSep Finset.univ fun ck : Dev nD × Fin 73 => knows (F := F) m (kcell ck)) ⊢ knows m (kcell ck) :=
    bigSep_elim (Finset.mem_univ ck)
  unfold env; iintro ⟨H, -⟩
  iapply h $$ H
theorem env_dma (c : Dev nD) (s : DmaSem sig) (h : 2 ≤ s.val) : env (F := F) m ⊢ knows m (dmaC c s) := by
  have := env_cell (F := F) m (c, ⟨s.val - 2, by have : s.val < 74 := s.isLt; omega⟩)
  unfold kcell at this; rw [csem_dma s h] at this; exact this
theorem env_bar (c : Dev nD) : env (F := F) m ⊢ knows m (barC c) := by
  have := env_cell (F := F) m (c, ⟨72, by decide⟩)
  unfold kcell at this; rw [csem_bar] at this; exact this
/-- What follows from the levels. -/
theorem env_lev {P : sProp 𝕄} (h : levs (F := F) ⊢ P) : env (F := F) m ⊢ P := by
  unfold env; exact sep_elim_right.trans h

/-! ## The components -/

/-- The debts: after `a` signals, `n` copies of product blocks, `g` copies of maxima. -/
def cOwe (c : Dev nD) (a n g : ℕ) : sProp 𝕄 := iprop(∃ W, owes (c : Thread nD τ) (owing c a n g) W)

/-- For each signal to come, its duty's token and the places it hands over. -/
def cSig (c : Dev nD) (a : ℕ) : sProp 𝕄 :=
  bigSep (Finset.Ico (a + 1) 16) fun d =>
    iprop(dutyTok ER (barC (peer c d)) 0 (16 - d) ∗ anyOf c (rcvM (peer c d).val) ∗ anyOf c (amM (16 - d)))

/-- The barrier: before its wait (`b = 0`) the credit to wait with; after it the position in the next round. -/
def cBar (c : Dev nD) (b : ℕ) : sProp 𝕄 :=
  if b = 0 then iprop(cred (tallyAt (barC c) () 15) ∗ atPos ER (barC c) 0 ∅ 0) else atPos ER (barC c) 1 ∅ 0

/-- The places on the other devices, from the barrier on. -/
def cLand (c : Dev nD) (b n g : ℕ) : sProp 𝕄 :=
  if b = 0 then iprop(emp)
  else iprop((bigSep (Finset.Ico (n + 1) 16) fun e => anyOf (peer c e) (rcvM c.val))
    ∗ bigSep (Finset.Ico (g + 1) 16) fun e => anyOf (peer c e) (amM e))

/-- The copies of `w`'s blocks, `s` started and `w` waited for: for the ones to come the read share and the duty's token;
    the slots still free and those filled and waited for; positions, reached rounds and credits. -/
def cCopy (c : Dev nD) (s w : ℕ) : sProp 𝕄 :=
  iprop((bigSep (Finset.Ico s 16) fun t => iprop(
        ((wM (c.val + t + 1)).view.loc (c : Thread nD τ) ↦[(wM (c.val + t + 1)).view.set]{Transfers.shareTokN fullShare t} wArr m c)
        ∗ dutyTok ER (dmaC c (wS t)) (t / 8) 0))
    ∗ (bigSep (Finset.Ico s 8) fun t => anyOf c (slot3 t))
    ∗ (bigSep (Finset.Ico (s - 8) w) fun t => wPay m c t)
    ∗ (bigSep (Finset.Ico w (w + 8)) fun t => atPos ER (dmaC c (wS t)) (t / 8) ∅ 0)
    ∗ (bigSep (Finset.Ico s (w + 8)) fun t => reached ER (dmaC c (wS t)) (t / 8))
    ∗ (bigSep (Finset.Ico w s) fun t => cred (tallyAt (dmaC c (wS t)) () Nw)))

/-- The product blocks, `y` stored, `n` sent, `u` sends waited for. -/
def cProd (c : Dev nD) (y n u : ℕ) : sProp 𝕄 :=
  iprop((bigSep (Finset.Ico y 16) fun t => anyOf c (ysM t))
    ∗ (bigSep (Finset.Ico n y) fun t => owns (c : Thread nD τ) (ysM t) fullShare (yblk m c t))
    ∗ (bigSep (Finset.Ico (n + 1) 16) fun d => iprop(dutyTok ER (dmaC c (dsendS d)) 0 0 ∗ dutyTok ER (dmaC (peer c d) (drecvS d)) 0 0))
    ∗ (bigSep (Finset.Ico (u + 1) (n + 1)) fun d => cred (tallyAt (dmaC c (dsendS d)) () Nd))
    ∗ (bigSep (Finset.Ico (u + 1) 16) fun d => atPos ER (dmaC c (dsendS d)) 0 ∅ 0)
    ∗ (bigSep (Finset.Ico 1 (u + 1)) fun d => iprop(dsPay c d ∗ atPos ER (dmaC c (dsendS d)) 1 ∅ 0)))

/-- The landing rows, `q` of the fifteen waited for; the device's own stored once `o = 1`. -/
def cRecv (c : Dev nD) (o q : ℕ) : sProp 𝕄 :=
  iprop((bigSep (Finset.Ico (q + 1) 16) fun d => iprop(cred (tallyAt (dmaC c (drecvS d)) () Nd) ∗ atPos ER (dmaC c (drecvS d)) 0 ∅ 0))
    ∗ (bigSep (Finset.Ico 1 (q + 1)) fun d => drPay m c d)
    ∗ (bigSep (Finset.Ico 1 (q + 1)) fun d => atPos ER (dmaC c (drecvS d)) 1 ∅ 0)
    ∗ (if o = 0 then anyOf c (rcvM c.val) else owns (c : Thread nD τ) (rcvM c.val) fullShare (yfor m c c)))

/-- The maxima to send, stored once `o = 1`; `g` copies started, `v` waited for. -/
def cMax (c : Dev nD) (o g v : ℕ) : sProp 𝕄 :=
  iprop((if o = 0 then anyOf c amSrc
      else iprop((amSrc.view.loc (c : Thread nD τ) ↦[amSrc.view.set]{Transfers.shareDrop fullShare 15} amx m c)
        ∗ bigSep (Finset.Ico (g + 1) 16) fun d => asPay m c d))
    ∗ (bigSep (Finset.Ico (g + 1) 16) fun d => iprop(dutyTok ER (dmaC c (asendS d)) 0 0 ∗ dutyTok ER (dmaC (peer c d) (arecvS d)) 0 0))
    ∗ (bigSep (Finset.Ico (v + 1) (g + 1)) fun d => cred (tallyAt (dmaC c (asendS d)) () Na))
    ∗ (bigSep (Finset.Ico (v + 1) 16) fun d => atPos ER (dmaC c (asendS d)) 0 ∅ 0)
    ∗ (bigSep (Finset.Ico 1 (v + 1)) fun d => asPay m c d)
    ∗ (bigSep (Finset.Ico 1 (v + 1)) fun d => atPos ER (dmaC c (asendS d)) 1 ∅ 0))

/-- The landing slabs of maxima, `p` of the fifteen waited for; the device's own stored once `o = 1`. -/
def cMaxR (c : Dev nD) (o p : ℕ) : sProp 𝕄 :=
  iprop((bigSep (Finset.Ico (p + 1) 16) fun d => iprop(cred (tallyAt (dmaC c (arecvS d)) () Na) ∗ atPos ER (dmaC c (arecvS d)) 0 ∅ 0))
    ∗ (bigSep (Finset.Ico 1 (p + 1)) fun d => arPay m c d)
    ∗ (bigSep (Finset.Ico 1 (p + 1)) fun d => atPos ER (dmaC c (arecvS d)) 1 ∅ 0)
    ∗ (if o = 0 then anyOf c (am3 0) else owns (c : Thread nD τ) (am3 0) fullShare (amxOwn m c)))

/-- The semaphores nothing is sent on. -/
def cIdle (c : Dev nD) : sProp 𝕄 :=
  iprop(atPos ER (dmaC c (dsendS 0)) 0 ∅ 0 ∗ atPos ER (dmaC c (drecvS 0)) 0 ∅ 0
    ∗ atPos ER (dmaC c (asendS 0)) 0 ∅ 0 ∗ atPos ER (dmaC c (arecvS 0)) 0 ∅ 0)

/-- The staged rows of `x`. -/
def cIn (c : Dev nD) : sProp 𝕄 := ((c : Thread nD τ).loc cc0_stg0_0) ↦{fullShare} xstg m c

/-! ## The landing buffers as wholes -/

theorem fin16_lt (d : Fin 16) : d.val % 16 = d.val := Nat.mod_eq_of_lt d.isLt

theorem rcv_disj (s s' : Fin 16) (h : s ≠ s') : Disjoint (rcvR s.val).set (rcvR s'.val).set := by
  have hne : s.val ≠ s'.val := fun e => h (Fin.ext e)
  have h1 := s.isLt; have h2 := s'.isLt
  refine Rect.unit_disjoint 0 ?_
  show s.val % 16 * 256 + 256 ≤ s'.val % 16 * 256 ∨ s'.val % 16 * 256 + 256 ≤ s.val % 16 * 256
  omega
theorem rcv_cover : (Finset.univ : Finset (Fin 16)).biUnion (fun s => (rcvR s.val).set) = Finset.univ := by
  ext i
  simp only [Finset.mem_biUnion, Finset.mem_univ, true_and, iff_true]
  have h0 : (i 0).val < 4096 := (i 0).isLt
  have h1 : (i 1).val < 128 := (i 1).isLt
  refine ⟨⟨(i 0).val / 256, by omega⟩, Rect.mem_set_unit.mpr fun a => ?_⟩
  fin_cases a
  · show (i 0).val / 256 % 16 * 256 ≤ (i 0).val ∧ (i 0).val < (i 0).val / 256 % 16 * 256 + 256
    omega
  · exact ⟨Nat.zero_le _, by show (i 1).val < 0 + 128; omega⟩
theorem am_disj (s s' : Fin 16) (h : s ≠ s') : Disjoint (amR s.val).set (amR s'.val).set := by
  have hne : s.val ≠ s'.val := fun e => h (Fin.ext e)
  have h1 := s.isLt; have h2 := s'.isLt
  refine Rect.unit_disjoint 0 ?_
  show s.val % 16 + 1 ≤ s'.val % 16 ∨ s'.val % 16 + 1 ≤ s.val % 16
  omega
theorem am_cover : (Finset.univ : Finset (Fin 16)).biUnion (fun s => (amR s.val).set) = Finset.univ := by
  ext i
  simp only [Finset.mem_biUnion, Finset.mem_univ, true_and, iff_true]
  have h0 : (i 0).val < 16 := (i 0).isLt
  have h1 : (i 1).val < 8 := (i 1).isLt
  have h2 : (i 2).val < 128 := (i 2).isLt
  refine ⟨⟨(i 0).val, h0⟩, Rect.mem_set_unit.mpr fun a => ?_⟩
  fin_cases a
  · show (i 0).val % 16 ≤ (i 0).val ∧ (i 0).val < (i 0).val % 16 + 1
    omega
  · exact ⟨Nat.zero_le _, by show (i 1).val < 0 + 8; omega⟩
  · exact ⟨Nat.zero_le _, by show (i 2).val < 0 + 128; omega⟩
theorem slot_disj (s s' : Fin 8) (h : s ≠ s') : Disjoint (slotR s.val).set (slotR s'.val).set := by
  have hne : s.val ≠ s'.val := fun e => h (Fin.ext e)
  have h1 := s.isLt; have h2 := s'.isLt
  refine Rect.unit_disjoint 0 ?_
  show s.val % 8 + 1 ≤ s'.val % 8 ∨ s'.val % 8 + 1 ≤ s.val % 8
  omega
theorem slot_cover : (Finset.univ : Finset (Fin 8)).biUnion (fun s => (slotR s.val).set) = Finset.univ := by
  ext i
  simp only [Finset.mem_biUnion, Finset.mem_univ, true_and, iff_true]
  have h0 : (i 0).val < 8 := (i 0).isLt
  have h1 : (i 1).val < 4096 := (i 1).isLt
  have h2 : (i 2).val < 128 := (i 2).isLt
  refine ⟨⟨(i 0).val, h0⟩, Rect.mem_set_unit.mpr fun a => ?_⟩
  fin_cases a
  · show (i 0).val % 8 ≤ (i 0).val ∧ (i 0).val < (i 0).val % 8 + 1
    omega
  · exact ⟨Nat.zero_le _, by show (i 1).val < 0 + 4096; omega⟩
  · exact ⟨Nat.zero_le _, by show (i 2).val < 0 + 128; omega⟩
theorem ys_disj (s s' : Fin 16) (h : s ≠ s') : Disjoint (ysR s.val).set (ysR s'.val).set := by
  have hne : s.val ≠ s'.val := fun e => h (Fin.ext e)
  have h1 := s.isLt; have h2 := s'.isLt
  refine Rect.unit_disjoint 1 ?_
  show s.val % 16 * 128 + 128 ≤ s'.val % 16 * 128 ∨ s'.val % 16 * 128 + 128 ≤ s.val % 16 * 128
  omega
theorem ys_cover : (Finset.univ : Finset (Fin 16)).biUnion (fun s => (ysR s.val).set) = Finset.univ := by
  ext i
  simp only [Finset.mem_biUnion, Finset.mem_univ, true_and, iff_true]
  have h0 : (i 0).val < 256 := (i 0).isLt
  have h1 : (i 1).val < 2048 := (i 1).isLt
  refine ⟨⟨(i 1).val / 128, by omega⟩, Rect.mem_set_unit.mpr fun a => ?_⟩
  fin_cases a
  · exact ⟨Nat.zero_le _, by show (i 0).val < 0 + 256; omega⟩
  · show (i 1).val / 128 % 16 * 128 ≤ (i 1).val ∧ (i 1).val < (i 1).val / 128 % 16 * 128 + 128
    omega

/-- Everything device `c` receives and its own block: its columns of the whole product, rounded. -/
def rcvFull (c : Dev nD) : Vec F S4096x128 .bf16 :=
  Rect.glue (fun s : Fin 16 => rcvR s.val) rcv_cover (fun s => yfor m ⟨s.val, s.isLt⟩ c)
/-- The contents of device `c`'s slab `d`, -/
def amAt (c : Dev nD) (d : ℕ) : Vec F S1x8x128 .f32 := if d = 0 then amxOwn m c else amx3 m (peer c (16 - d))
/-- and all slabs. -/
def amFull (c : Dev nD) : Vec F S16x8x128 .f32 :=
  Rect.glue (fun d : Fin 16 => amR d.val) am_cover (fun d => amAt m c d.val)

/-- The result on device `c`. -/
def outv (c : Dev nD) : FVec F S4096x128 .f32 := k0_pay57 (k0_pay55 (amFull m c)) (k0_pay56 (amFull m c)) (rcvFull m c)

/-- The result's buffer, stored once `z = 1`. -/
def cOut (c : Dev nD) (z : ℕ) : sProp 𝕄 :=
  if z = 0 then iprop(∃ f, ((c : Thread nD τ).loc cc0_stg1_0) ↦{fullShare} f)
  else (((c : Thread nD τ).loc cc0_stg1_0) ↦{fullShare} outv m c)

/-- All of it. -/
def St (c : Dev nD) (a b s w y n g o₁ o₂ o₃ p q u v z : ℕ) : sProp 𝕄 :=
  iprop(env m ∗ cOwe c a n g ∗ cSig c a ∗ cBar c b ∗ cLand c b n g ∗ cCopy m c s w ∗ cProd m c y n u ∗ cRecv m c o₁ q
    ∗ cMax m c o₂ g v ∗ cMaxR m c o₃ p ∗ cIdle c ∗ cIn m c ∗ cOut m c z)

end Cert.KernelIdealProof

end
-- ==== Proof.Ideal.Steps.lean ====
/-
# One operation at a time

Each lemma takes one operation of the kernel at the head of a program and moves one counter of `St`. The operation's
operands come with an equation that says which ones they are.
-/
module

public import proofs.«01_k».proof.Proof.Ideal.State

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's weakest precondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable {c : Dev nD} {a b s w y n g o₁ o₂ o₃ p q u v z : ℕ}

/-- A signal to a peer's barrier. -/
theorem step_signal {α : Type} {K : α → sProp 𝕄} {k : PUnit → Prog (TpuEff nD τ sig (Elt F) Λ₀ .tc) α} {d : Dev nD} {x : Int} (ha : a < 15) (hd : d = peer c (a + 1)) (hx : x = 1)
    (h : St m c (a + 1) b s w y n g o₁ o₂ o₃ p q u v z ⊢ WP c (k ⟨⟩) K) :
    St m c a b s w y n g o₁ o₂ o₃ p q u v z ⊢ WP c (.op (.semSignal (d : Thread nD τ) barS x) k) K := by
  subst hd hx
  have hb : 1 ≤ 16 - (a + 1) ∧ 16 - (a + 1) < 16 := by omega
  have hmem : 16 - (a + 1) ∈ (Rd (F := F) m).duties (barC (peer c (a + 1))) 0 := by
    rw [duties_bar]; exact Finset.mem_Ico.mpr hb
  unfold St cOwe cSig
  rw [ico_head (show a + 1 < 16 by omega)]
  iintro ⟨#He, ⟨%W, Ho⟩, ⟨⟨Htok, Hp⟩, Hsig⟩, Hrest⟩
  ihave Hk := (env_bar m (peer c (a + 1))) $$ He
  unfold knows
  icases Hk with ⟨⟨%κ, #Hi⟩, #Hr⟩
  iapply (Rounds.wp_signal 𝒱₀ ER (Rd m) (c : Thread nD τ) none (dst := (peer c (a + 1) : Thread nD τ)) (κ := κ)
      (r := 0) (d := 16 - (a + 1)) (k' := 1) hmem (amount_bar m _ _) () (owing c (a + 1) n g)
      (owing_signal c n g ha) (W := W)) $$ [Ho Htok Hp]
  · isplitr; · iexact Hi
    isplitl [Ho]; · iexact Ho
    isplitl [Htok]; · iexact Htok
    isplitl [Hp]
    · rw [payload_bar]; unfold barPay; rw [peer_back c (show a + 1 ≤ 16 by omega)]; iexact Hp
    · iexact Hr
  iintro Ho
  iapply h
  unfold St
  isplitr; · iexact He
  isplitl [Ho]
  · unfold cOwe; iexists W; iexact Ho
  isplitl [Hsig]
  · unfold cSig; iexact Hsig
  iexact Hrest

/-- The wait at the barrier, all signals sent: the peers' landing places. -/
theorem step_barrier {α : Type} {K : α → sProp 𝕄} {k : PUnit → Prog (TpuEff nD τ sig (Elt F) Λ₀ .tc) α} {x : Int} (hx : x = 15)
    (h : St m c 15 1 s w y 0 0 o₁ o₂ o₃ p q u v z ⊢ WP c (k ⟨⟩) K) :
    St m c 15 0 s w y 0 0 o₁ o₂ o₃ p q u v z ⊢ WP c (.op (.semWait barS x) k) K := by
  subst hx
  have hmay : env (F := F) m ⊢ MayWait (c : Thread nD τ) (.reg barS) () (owing c 15 0 0) :=
    env_lev m (mayWait_bar c 0 0)
  have hk : 0 + 15 = (Rd (F := F) m).expect (barC c) 0 := by rw [expect_bar]
  have hpay : bigSep ((Rd (F := F) m).duties (barC c) 0 \ ∅) (fun d => (Rd (F := F) m).payload (barC c) 0 d)
      ⊢ iprop((bigSep (Finset.Ico 1 16) fun e => anyOf (peer c e) (rcvM c.val)) ∗ bigSep (Finset.Ico 1 16) fun e => anyOf (peer c e) (amM e)) := by
    rw [Finset.sdiff_empty, duties_bar, ← bigSep_sep']; exact .rfl
  unfold St cOwe cBar cLand
  simp only [if_true, one_ne_zero, if_false]
  iintro ⟨#He, ⟨%W, Ho⟩, Hsig, ⟨Hcr, Hat⟩, -, Hrest⟩
  ihave Hk := (env_bar m c) $$ He
  unfold knows
  icases Hk with ⟨⟨%κ, #Hi⟩, #Hr⟩
  iapply (Rounds.wp_wait_rest_token 𝒱₀ ER (Rd m) (c : Thread nD τ) none (κ := κ)
      (wpE_semWait_eq 𝒱₀ (c : Thread nD τ) none Set.univ) (Set.mem_univ _) () (O := owing c 15 0 0) (W := W) (R := 0) (m := 0) (T := ∅) hk)
    $$ [Hcr Ho Hat]
  · isplitr; · iexact Hi
    isplitl [Hcr]; · iexact Hcr
    isplitl [Ho]; · iexact Ho
    isplitr
    · iapply hmay; iexact He
    iexact Hat
  iintro ⟨Ho, Hat, -, Hpay⟩
  ihave Hp := hpay $$ Hpay
  iapply h
  unfold St cOwe cBar cLand
  simp only [one_ne_zero, if_false]
  isplitr; · iexact He
  isplitl [Ho]
  · iexists (insert (SemLoc.reg barS, ()) W); iexact Ho
  isplitl [Hsig]; · iexact Hsig
  isplitl [Hat]; · iexact Hat
  isplitl [Hp]; · iexact Hp
  iexact Hrest

/-- A wait for a copy, whatever the semaphore: the duty's payload and the next round. -/
theorem wait_dma {α : Type} {K : α → sProp 𝕄} {k : PUnit → Prog (TpuEff nD τ sig (Elt F) Λ₀ .tc) α} {S : DmaSem sig} {r N : ℕ} {O : CellTallies nD τ sig Unit} {W : Waits sig Unit}
    {sp sp' : Space} {sh : Shape} {e : EltTy} {M : Memref sig .tc sp sh e} {D : Memref sig .tc sp' sh e}
    {hM : M.view.WordExact} {hD : D.view.WordExact}
    (hS : 2 ≤ S.val) (hd : dmaDuties S.val r = {0}) (hN : dmaAmount S.val = N) (hc : D.view.dmaCredit = N)
    (hlev : levs (F := F) ⊢ MayWait (c : Thread nD τ) (.dma S) () O) :
    iprop(env m ∗ cred (tallyAt (dmaC c S) () N) ∗ owes (c : Thread nD τ) O W ∗ atPos ER (dmaC c S) r ∅ 0)
      ⊢ iprop(((∃ W', owes (c : Thread nD τ) O W') ∗ atPos ER (dmaC c S) (r + 1) ∅ 0 ∗ reached ER (dmaC c S) (r + 1) ∗ dmaPay m c S.val r
            -∗ WP c (k ⟨⟩) K)
          -∗ WP c (.op (.waitDma2 S M D hM hD) k) K) := by
  subst hc
  have hmay : env (F := F) m ⊢ MayWait (c : Thread nD τ) (.dma S) () O := env_lev m hlev
  have hk : 0 + D.view.dmaCredit = (Rd (F := F) m).expect (dmaC c S) r := by rw [expect_dma m c S r hd, hN, Nat.zero_add]
  iintro ⟨#He, Hcr, Ho, Hat⟩ Hk
  ihave HI := (env_dma m c S hS) $$ He
  unfold knows
  icases HI with ⟨⟨%κ, #Hi⟩, #Hr⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := r) (m := 0) (T := ∅) hk)
    $$ [Hcr Ho Hat]
  · isplitr; · iexact Hi
    isplitl [Hcr]; · iexact Hcr
    isplitl [Ho]; · iexact Ho
    isplitr
    · iapply hmay; iexact He
    iexact Hat
  iintro ⟨Ho, Hat, Hr', Hpay⟩
  iapply Hk
  isplitl [Ho]; · iexists (insert (SemLoc.dma S, ()) W); iexact Ho
  isplitl [Hat]; · iexact Hat
  isplitl [Hr']; · iexact Hr'
  iapply (Entails.of_eq (rest_dma m c S r hd)); iexact Hpay

/-! ### Copies of `w`'s blocks -/

omit [FloatOps F] in
/-- What a memref reads, from what its squeezed form reads. -/
theorem read_squeeze {sp : Space} {sh sh' : Shape} {e : EltTy} (M : Memref sig .tc sp sh e) (hq : sh.Squeezes sh')
    (f : M.view.ty.Contents (Elt F)) (j : sh.Idx) :
    M.view.read (Elt F) f j = (M.squeeze sh' hq).view.read (Elt F) f ((Shape.reshapeEquiv (Shape.Squeezes.numel_eq hq)).symm j) := by
  show _ = M.view.read (Elt F) f (Shape.reshapeEquiv (Shape.Squeezes.numel_eq hq) ((Shape.reshapeEquiv (Shape.Squeezes.numel_eq hq)).symm j))
  rw [Equiv.apply_symm_apply]

theorem wS_next (t : ℕ) : wS (t + 8) = wS t := Fin.ext (by rw [wS_val, wS_val]; omega)
theorem div_next (t : ℕ) : (t + 8) / 8 = t / 8 + 1 := by omega
theorem slot3_next (t : ℕ) : slot3 (t + 8) = slot3 t := by
  have : (t + 8) % 8 = t % 8 := by omega
  unfold slot3 slotR; congr 2; rw [this]
theorem two_le_wS (t : ℕ) : 2 ≤ (wS t).val := by rw [wS_val]; omega
theorem lv_wS (c : Dev nD) (t : ℕ) : lv (dmaC c (wS t)) () = 0 :=
  if_neg (by rw [wS_val]; have := Nat.mod_lt t (show 0 < 8 by decide); omega)

theorem slot_set (t : ℕ) : (slotM t).view.set = (slot3 t).view.set := View.set_reshape ..

/-- A block landed in its slot. -/
theorem landed_slot (c : Dev nD) (t : ℕ) (fd : Buf (Elt F) ((slotM t).view.loc (c : Thread nD τ))) :
    ((slotM t).view.loc (c : Thread nD τ) ↦[(slotM t).view.set]{fullShare} ((slotM t).view.write (Elt F) fd (wblk m c t) Finset.univ))
      ⊢ wPay m c t := by
  unfold wPay owns
  refine .trans ?_ (exists_intro ((slotM t).view.write (Elt F) fd (wblk m c t) Finset.univ))
  have e : (slot3 t).view.read (Elt F) ((slotM t).view.write (Elt F) fd (wblk m c t) Finset.univ) = wld m c t := by
    funext j
    rw [read_squeeze (slot3 t) squeezes_S1x4096x128_S4096x128]
    exact congrFun (View.read_write_univ (v := (slotM t).view) fd (wblk m c t)) _
  rw [slot_set]
  iintro H
  isplitr; · ipureintro; exact e
  iexact H

/-- A free slot for the block of step `s`. -/
theorem slot_free (c : Dev nD) {s w : ℕ} (hw : s < w + 8) :
    iprop((bigSep (Finset.Ico s 8) fun t => anyOf c (slot3 t)) ∗ (bigSep (Finset.Ico (s - 8) w) fun t => wPay m c t))
      ⊢ iprop(anyOf c (slot3 s) ∗ (bigSep (Finset.Ico (s + 1) 8) fun t => anyOf c (slot3 t))
          ∗ (bigSep (Finset.Ico (s + 1 - 8) w) fun t => wPay m c t)) := by
  by_cases h8 : s < 8
  · rw [ico_head h8, show s - 8 = 0 by omega, show s + 1 - 8 = 0 by omega]
    iintro ⟨⟨H1, H2⟩, H3⟩
    isplitl [H1]; · iexact H1
    isplitl [H2] <;> iassumption
  · obtain ⟨t, rfl⟩ : ∃ t, s = t + 8 := ⟨s - 8, by omega⟩
    rw [ico_none (show 8 ≤ t + 8 by omega), ico_none (show 8 ≤ t + 8 + 1 by omega), show t + 8 - 8 = t by omega,
      show t + 8 + 1 - 8 = t + 1 by omega, ico_head (show t < w by omega), slot3_next]
    iintro ⟨-, H1, H2⟩
    isplitl [H1]; · iapply (anyOf_of_owns c (slot3 t) (wld m c t)); unfold wPay; iexact H1
    isplitr; · iempintro
    iexact H2

/-- The start of the copy of the block of step `s`. -/
theorem step_wstart {α : Type} {K : α → sProp 𝕄} {k : PUnit → Prog (TpuEff nD τ sig (Elt F) Λ₀ .tc) α} {M : Memref sig .tc .hbm S4096x128 .f32} {D : Memref sig .tc .vmem S4096x128 .f32} {X : DmaSem sig}
    {hM : M.view.WordExact} {hD : D.view.WordExact} {hT : DmaTarget.Typed (nD := nD) (τ := τ) (p := .tc) .hbm (.dma X) (.here D)}
    (hs : s < 16) (hw : s < w + 8) (hws : w ≤ s) (eM : M = wM (c.val + s + 1)) (eD : D = slotM s) (eX : X = wS s)
    (h : St m c a b (s + 1) w y n g o₁ o₂ o₃ p q u v z ⊢ WP c (k ⟨⟩) K) :
    St m c a b s w y n g o₁ o₂ o₃ p q u v z ⊢ WP c (.op (.enqueueDma M (.here D) (.dma X) hM hD hT) k) K := by
  subst eM eD eX
  have hmem : 0 ∈ (Rd (F := F) m).duties (dmaC c (wS s)) (s / 8) := by
    rw [duties_dma m c _ _ (duties_wS hs)]; exact Finset.mem_singleton_self _
  have hamt : (Rd (F := F) m).amount (dmaC c (wS s)) (s / 8) 0 = Nw := by rw [amount_dma, amount_wS]
  have hpay (fd : Buf (Elt F) ((slotM s).view.loc (c : Thread nD τ))) :
      iprop(((slotM s).view.loc (c : Thread nD τ) ↦[(slotM s).view.set]{fullShare}
            ((slotM s).view.write (Elt F) fd ((wM (c.val + s + 1)).view.read (Elt F) (wArr m c)) Finset.univ))
          ∗ ((wM (c.val + s + 1)).view.loc (c : Thread nD τ) ↦[(wM (c.val + s + 1)).view.set]{Transfers.shareTokN fullShare s} wArr m c))
        ⊢ (Rd (F := F) m).payload (dmaC c (wS s)) (s / 8) 0 := by
    rw [payload_dma, pay_wS]
    iintro ⟨H, -⟩
    iapply (landed_slot m c s fd); iexact H
  have hd (fd : Buf (Elt F) ((slot3 s).view.loc (c : Thread nD τ))) :
      ((slot3 s).view.loc (c : Thread nD τ) ↦[(slot3 s).view.set]{fullShare} fd : sProp 𝕄)
        ⊢ ((slotM s).view.loc (c : Thread nD τ) ↦[(slotM s).view.set]{fullShare} fd) := by rw [slot_set]
  have rule (fd : Buf (Elt F) ((slotM s).view.loc (c : Thread nD τ))) (κ : ℕ) :=
    Rounds.wp_copy_pointsTo (defs := defs₀ (F := F)) 𝒱₀ ER (Rd m) (c : Thread nD τ) none (Γ := []) (Q := K) (k := k) (Es := Set.univ) (κ := κ)
      (src := wM (c.val + s + 1)) (dst := slotM s) (sem := .dma (wS s)) (hsrc := hM) (hdst := hD) (hsem := hT)
      (q := Transfers.shareTokN fullShare s) (r := s / 8) (d := 0) (fd := fd) hmem () Nw (slot_amount s (wS s)) hamt (hpay fd)
  have key : iprop(env m ∗ cCopy m c s w) ⊢ iprop((cCopy m c (s + 1) w -∗ WP c (k ⟨⟩) K)
      -∗ WP c (.op (.enqueueDma (wM (c.val + s + 1)) (.here (slotM s)) (.dma (wS s)) hM hD hT) k) K) := by
    unfold cCopy
    rw [ico_head hs, ico_head (Φ := fun t => reached ER (dmaC c (wS t)) (t / 8)) hw, ico_last hws]
    iintro ⟨#He, ⟨⟨Hw, Htok⟩, Hs1⟩, Hs2, Hs3, Hs4, ⟨Hr, Hs5⟩, Hs6⟩ Hk
    ihave Hf := (slot_free m c hw) $$ [Hs2 Hs3]
    · isplitl [Hs2] <;> iassumption
    icases Hf with ⟨Hd, Hs2, Hs3⟩
    ihave Hd := (Entails.of_eq (by unfold anyOf; rfl)) $$ Hd
    icases Hd with ⟨%fd, Hd⟩
    ihave Hd := (hd fd) $$ Hd
    ihave HI := (env_dma m c (wS s) (two_le_wS s)) $$ He
    unfold knows
    icases HI with ⟨⟨%κ, #Hi⟩, -⟩
    iapply (rule fd κ) $$ [Hw Htok Hr Hd]
    · isplitr; · iexact Hi
      isplitl [Hw]; · iexact Hw
      isplitl [Hd]; · iexact Hd
      isplitl [Htok] <;> iassumption
    iintro Hc
    iapply Hk
    isplitl [Hs1]; · iexact Hs1
    isplitl [Hs2]; · iexact Hs2
    isplitl [Hs3]; · iexact Hs3
    isplitl [Hs4]; · iexact Hs4
    isplitl [Hs5]; · iexact Hs5
    isplitl [Hc] <;> iassumption
  unfold St at h ⊢
  iintro ⟨#He, Ho, Hsig, Hbar, Hland, Hcopy, Hrest⟩
  iapply key $$ [Hcopy]
  · isplitr; · iexact He
    iexact Hcopy
  iintro Hcopy
  iapply h
  isplitr; · iexact He
  isplitl [Ho]; · iexact Ho
  isplitl [Hsig]; · iexact Hsig
  isplitl [Hbar]; · iexact Hbar
  isplitl [Hland]; · iexact Hland
  isplitl [Hcopy]; · iexact Hcopy
  iexact Hrest

/-- The wait for the block of step `w`. -/
theorem step_wwait {α : Type} {K : α → sProp 𝕄} {k : PUnit → Prog (TpuEff nD τ sig (Elt F) Λ₀ .tc) α} {M : Memref sig .tc .hbm S4096x128 .f32} {D : Memref sig .tc .vmem S4096x128 .f32} {X : DmaSem sig}
    {hM : M.view.WordExact} {hD : D.view.WordExact}
    (hws : w < s) (hw : s ≤ w + 8) (h16 : w < 16) (eX : X = wS w) (hc : D.view.dmaCredit = Nw)
    (h : St m c a b s (w + 1) y n g o₁ o₂ o₃ p q u v z ⊢ WP c (k ⟨⟩) K) :
    St m c a b s w y n g o₁ o₂ o₃ p q u v z ⊢ WP c (.op (.waitDma2 X M D hM hD) k) K := by
  subst eX
  have rule (W : Waits sig Unit) := wait_dma m (c := c) (K := K) (k := k) (M := M) (D := D) (hM := hM) (hD := hD) (W := W) (two_le_wS w)
    (duties_wS h16) (amount_wS w) hc (mayWait_low c (wS w) a n g (lv_wS c w))
  rw [pay_wS] at rule
  have key : iprop(env m ∗ cOwe c a n g ∗ cCopy m c s w) ⊢ iprop(((cOwe c a n g ∗ cCopy m c s (w + 1)) -∗ WP c (k ⟨⟩) K)
      -∗ WP c (.op (.waitDma2 (wS w) M D hM hD) k) K) := by
    unfold cCopy cOwe
    rw [show w + 1 + 8 = w + 8 + 1 by omega, ico_head hws, ico_head (show w < w + 8 by omega), ico_last (show s - 8 ≤ w by omega),
      ico_last (show w + 1 ≤ w + 8 by omega), ico_last hw, wS_next, div_next]
    iintro ⟨#He, ⟨%W, Ho⟩, Hs1, Hs2, Hs3, ⟨Hat, Hs4⟩, Hs5, ⟨Hcr, Hs6⟩⟩ Hk
    iapply (rule W) $$ [Hcr Ho Hat]
    · isplitr; · iexact He
      isplitl [Hcr]; · iexact Hcr
      isplitl [Ho]; · iexact Ho
      iexact Hat
    iintro ⟨Ho, Hat, Hr, Hp⟩
    iapply Hk
    isplitl [Ho]; · iexact Ho
    isplitl [Hs1]; · iexact Hs1
    isplitl [Hs2]; · iexact Hs2
    isplitl [Hs3 Hp]
    · isplitl [Hp]; · iexact Hp
      iexact Hs3
    isplitl [Hs4 Hat]
    · isplitl [Hat]; · iexact Hat
      iexact Hs4
    isplitl [Hs5 Hr]
    · isplitl [Hr]; · iexact Hr
      iexact Hs5
    iexact Hs6
  unfold St at h ⊢
  iintro ⟨#He, Ho, Hsig, Hbar, Hland, Hcopy, Hrest⟩
  iapply key $$ [Ho Hcopy]
  · isplitr; · iexact He
    isplitl [Ho]; · iexact Ho
    iexact Hcopy
  iintro ⟨Ho, Hcopy⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  iexact Hrest

/-! ### Loads and stores of parts of a buffer -/

/-- A load of elements at known contents; -/
theorem load_owns {α : Type} {K : α → sProp 𝕄} {cs : CoreSpace} {sh : Shape} {e : EltTy} {M : Memref sig .tc cs sh e} {R : Rect sh}
    {hl : M.view.LoadsAt R.toLoadRect} (hr : ∀ a, R.stride a = 1)
    {k : (R.toLoadRect.shape.Idx → Elt F e) → Prog (TpuEff nD τ sig (Elt F) Λ₀ .tc) α} {qs : PosShare TreeShare} (X : R.shape.Idx → Elt F e) :
    (owns (c : Thread nD τ) (M.slice R hr) qs X : sProp 𝕄)
      ⊢ iprop((owns (c : Thread nD τ) (M.slice R hr) qs X -∗ WP c (k X) K) -∗ WP c (.op (.load M R.toLoadRect hl) k) K) := by
  have rule (f : Buf (Elt F) ((M.access R).loc (c : Thread nD τ))) :=
    wp_load_rect (defs := defs₀ (F := F)) 𝒱₀ (c : Thread nD τ) none Set.univ (Γ := []) (Ix := Unit) (Name := ℕ) (U := UU) (Lvl := ℕ) (Q := K) (m := M) (r := R) (hl := hl) (k := k) (q := qs) (f := f)
      (S := (M.access R).set) (Finset.Subset.refl _)
  unfold owns
  iintro ⟨%f, %hf, H⟩ Hk
  iapply (rule f) $$ [H]
  · iexact H
  iintro H
  subst hf
  iapply Hk
  iexists f
  isplitr; · ipureintro; rfl
  iexact H

/-- a load of elements at whatever they hold; -/
theorem load_any {α : Type} {K : α → sProp 𝕄} {cs : CoreSpace} {sh : Shape} {e : EltTy} {M : Memref sig .tc cs sh e} {R : Rect sh}
    {hl : M.view.LoadsAt R.toLoadRect} (hr : ∀ a, R.stride a = 1)
    {k : (R.toLoadRect.shape.Idx → Elt F e) → Prog (TpuEff nD τ sig (Elt F) Λ₀ .tc) α} :
    anyOf c (M.slice R hr) ⊢ iprop((∀ X, anyOf c (M.slice R hr) -∗ WP c (k X) K) -∗ WP c (.op (.load M R.toLoadRect hl) k) K) := by
  have rule (f : Buf (Elt F) ((M.access R).loc (c : Thread nD τ))) :=
    wp_load_rect (defs := defs₀ (F := F)) 𝒱₀ (c : Thread nD τ) none Set.univ (Γ := []) (Ix := Unit) (Name := ℕ) (U := UU) (Lvl := ℕ) (Q := K) (m := M) (r := R) (hl := hl) (k := k) (q := fullShare) (f := f)
      (S := (M.access R).set) (Finset.Subset.refl _)
  unfold anyOf
  iintro ⟨%f, H⟩ Hk
  iapply (rule f) $$ [H]
  · iexact H
  iintro H
  iapply Hk $$ [H]
  iexists f
  iexact H

/-- a store. -/
theorem store_any {α : Type} {K : α → sProp 𝕄} {k : PUnit → Prog (TpuEff nD τ sig (Elt F) Λ₀ .tc) α}
    {cs : CoreSpace} {sh : Shape} {e : EltTy} {M : Memref sig .tc cs sh e} {R : Rect sh}
    {X : R.shape.Idx → Elt F e} {hx : (M.access R).Stores Finset.univ} {hm : (Finset.univ : Finset R.shape.Idx) = Finset.univ ∨ ∀ a, R.stride a = 1}
    (hr : ∀ a, R.stride a = 1) :
    anyOf c (M.slice R hr) ⊢ iprop((owns (c : Thread nD τ) (M.slice R hr) fullShare X -∗ WP c (k ⟨⟩) K)
      -∗ WP c (.op (.store M R X Finset.univ hx hm) k) K) := by
  have rule (f : Buf (Elt F) ((M.access R).loc (c : Thread nD τ))) :=
    wp_store (defs := defs₀ (F := F)) 𝒱₀ (c : Thread nD τ) none Set.univ (Γ := []) (Ix := Unit) (Name := ℕ) (U := UU) (Lvl := ℕ) (Q := K) (m := M) (r := R) (w := X) (Mk := Finset.univ) (hx := hx) (hm := hm)
      (k := k) (f := f) (S := (M.access R).set) (by rw [View.setOn_univ])
  unfold anyOf owns
  iintro ⟨%f, H⟩ Hk
  iapply (rule f) $$ [H]
  · iexact H
  iintro H
  iapply Hk
  iexists ((M.access R).write (Elt F) f X Finset.univ)
  isplitr; · ipureintro; exact View.read_write_univ (v := M.access R) f X
  iexact H

/-- The load of the block of step `t`, waited for. -/
theorem step_slotload {α : Type} {K : α → sProp 𝕄} {t : ℕ} {hl : slots.view.LoadsAt (slotR t).toLoadRect}
    {k : ((slotR t).toLoadRect.shape.Idx → Elt F .f32) → Prog (TpuEff nD τ sig (Elt F) Λ₀ .tc) α} (hs : s ≤ t + 8)
    (h : St m c a b s (t + 1) y n g o₁ o₂ o₃ p q u v z ⊢ WP c (k (wld m c t)) K) :
    St m c a b s (t + 1) y n g o₁ o₂ o₃ p q u v z ⊢ WP c (.op (.load slots (slotR t).toLoadRect hl) k) K := by
  have rule := load_owns (c := c) (K := K) (M := slots) (R := slotR t) (hl := hl) (fun _ => rfl) (k := k) (qs := fullShare) (wld m c t)
  have key : cCopy m c s (t + 1) ⊢ iprop((cCopy m c s (t + 1) -∗ WP c (k (wld m c t)) K) -∗ WP c (.op (.load slots (slotR t).toLoadRect hl) k) K) := by
    unfold cCopy
    rw [ico_last (show s - 8 ≤ t by omega)]
    unfold wPay
    iintro ⟨Hs1, Hs2, ⟨Hp, Hs3⟩, Hs4⟩ Hk
    iapply rule $$ Hp
    iintro Hp
    iapply Hk
    isplitl [Hs1]; · iexact Hs1
    isplitl [Hs2]; · iexact Hs2
    isplitl [Hp Hs3]
    · isplitl [Hp]; · iexact Hp
      iexact Hs3
    iexact Hs4
  unfold St at h ⊢
  iintro ⟨#He, Ho, Hsig, Hbar, Hland, Hcopy, Hrest⟩
  iapply key $$ Hcopy
  iintro Hcopy
  iapply h
  isplitr; · iexact He
  isplitl [Ho]; · iexact Ho
  isplitl [Hsig]; · iexact Hsig
  isplitl [Hbar]; · iexact Hbar
  isplitl [Hland]; · iexact Hland
  isplitl [Hcopy]; · iexact Hcopy
  iexact Hrest

end Steps

end Cert.KernelIdealProof

end
-- ==== Proof.Ideal.StepsSend.lean ====
/-
# Product blocks and maxima: loads, stores and sends

The operations on the buffers of product blocks and of maxima up to the last send.
-/
module

public import proofs.«01_k».proof.Proof.Ideal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

variable {c : Dev nD} {a b s w y n g o₁ o₂ o₃ p q u v z : ℕ}

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

/-- The load of the staged rows of `x`. -/
theorem step_xload {α : Type} {K : α → sProp 𝕄} {inb : ∀ a, (![0, 0] : Fin 2 → Nat) a + S256x4096.size a ≤ S256x4096.size a}
    {hl : xM.view.LoadsAt (Rect.unit (s := S256x4096) ![0, 0] S256x4096.size inb).toLoadRect}
    {k : (S256x4096.Idx → Elt F .f32) → Prog (TpuEff nD τ sig (Elt F) Λ₀ .tc) α}
    (h : St m c a b s w y n g o₁ o₂ o₃ p q u v z ⊢ WP c (k (xstg m c)) K) :
    St m c a b s w y n g o₁ o₂ o₃ p q u v z ⊢ WP c (.op (.load xM (Rect.unit (s := S256x4096) ![0, 0] S256x4096.size inb).toLoadRect hl) k) K := by
  have rule := wp_load (defs := defs₀ (F := F)) 𝒱₀ (c : Thread nD τ) none Set.univ (Γ := []) (Ix := Unit) (Name := ℕ) (U := UU) (Lvl := ℕ) (Q := K)
      (m := xM) (r := (Rect.unit (s := S256x4096) ![0, 0] S256x4096.size inb).toLoadRect) (hl := hl) (k := k) (q := fullShare) (f := xstg m c)
      (S := Finset.univ) (Finset.subset_univ _)
  have er : xM.view.readAt (Elt F) (Rect.unit (s := S256x4096) ![0, 0] S256x4096.size inb).toLoadRect (xstg m c) = xstg m c :=
    Memref.readAt_unit_zero (Elt F) cc0_stg0_0 zero2 _ _
  rw [er] at rule
  have key : cIn m c ⊢ iprop((cIn m c -∗ WP c (k (xstg m c)) K)
      -∗ WP c (.op (.load xM (Rect.unit (s := S256x4096) ![0, 0] S256x4096.size inb).toLoadRect hl) k) K) := rule
  unfold St at h ⊢
  iintro ⟨#He, Ho, Hsig, Hbar, Hland, Hcopy, Hprod, Hrecv, Hmax, Hmaxr, Hidle, Hin, Hrest⟩
  iapply key $$ Hin
  iintro Hin
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  isplitl [Hidle]; · iexact Hidle
  isplitl [Hin]; · iexact Hin
  iexact Hrest

/-- The load of a product block's place before it is stored. -/
theorem step_yload {α : Type} {K : α → sProp 𝕄} {hl : ysAll.view.LoadsAt (ysR y).toLoadRect}
    {k : ((ysR y).toLoadRect.shape.Idx → Elt F .bf16) → Prog (TpuEff nD τ sig (Elt F) Λ₀ .tc) α} (hy : y < 16)
    (h : ∀ X, St m c a b s w y n g o₁ o₂ o₃ p q u v z ⊢ WP c (k X) K) :
    St m c a b s w y n g o₁ o₂ o₃ p q u v z ⊢ WP c (.op (.load ysAll (ysR y).toLoadRect hl) k) K := by
  have rule := load_any (c := c) (K := K) (M := ysAll) (R := ysR y) (hl := hl) (fun _ => rfl) (k := k)
  have key : cProd m c y n u ⊢ iprop((∀ X, cProd m c y n u -∗ WP c (k X) K) -∗ WP c (.op (.load ysAll (ysR y).toLoadRect hl) k) K) := by
    unfold cProd
    rw [ico_head hy]
    iintro ⟨⟨Hp, Hs1⟩, Hs2⟩ Hk
    iapply rule $$ Hp
    iintro %X Hp
    iapply Hk
    isplitl [Hp Hs1]
    · isplitl [Hp]; · iexact Hp
      iexact Hs1
    iexact Hs2
  unfold St at h ⊢
  iintro ⟨#He, Ho, Hsig, Hbar, Hland, Hcopy, Hprod, Hrest⟩
  iapply key $$ Hprod
  iintro %X Hprod
  iapply (h X)
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  iexact Hrest

/-- The store of the product block of step `y`. -/
theorem step_ystore {α : Type} {K : α → sProp 𝕄} {k : PUnit → Prog (TpuEff nD τ sig (Elt F) Λ₀ .tc) α} {X : (ysR y).shape.Idx → Elt F .bf16} {hx : (ysAll.access (ysR y)).Stores Finset.univ}
    {hm : (Finset.univ : Finset (ysR y).shape.Idx) = Finset.univ ∨ ∀ a, (ysR y).stride a = 1}
    (hy : y < 16) (hn : n ≤ y) (eX : X = yblk m c y)
    (h : St m c a b s w (y + 1) n g o₁ o₂ o₃ p q u v z ⊢ WP c (k ⟨⟩) K) :
    St m c a b s w y n g o₁ o₂ o₃ p q u v z ⊢ WP c (.op (.store ysAll (ysR y) X Finset.univ hx hm) k) K := by
  subst eX
  have rule := store_any (c := c) (K := K) (k := k) (M := ysAll) (R := ysR y) (X := yblk m c y) (hx := hx) (hm := hm) (fun _ => rfl)
  have key : cProd m c y n u ⊢ iprop((cProd m c (y + 1) n u -∗ WP c (k ⟨⟩) K)
      -∗ WP c (.op (.store ysAll (ysR y) (yblk m c y) Finset.univ hx hm) k) K) := by
    unfold cProd
    rw [ico_head hy, ico_last hn]
    iintro ⟨⟨Hp, Hs1⟩, Hs2, Hs3⟩ Hk
    iapply rule $$ Hp
    iintro Hp
    iapply Hk
    isplitl [Hs1]; · iexact Hs1
    isplitl [Hp Hs2]
    · isplitl [Hp]; · iexact Hp
      iexact Hs2
    iexact Hs3
  unfold St at h ⊢
  iintro ⟨#He, Ho, Hsig, Hbar, Hland, Hcopy, Hprod, Hrest⟩
  iapply key $$ Hprod
  iintro Hprod
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  iexact Hrest

/-! ### Sends of product blocks -/

theorem two_le_dsendS (d : ℕ) : 2 ≤ (dsendS d).val := by rw [dsendS_val]; omega
theorem two_le_drecvS (d : ℕ) : 2 ≤ (drecvS d).val := by rw [drecvS_val]; omega
theorem two_le_asendS (d : ℕ) : 2 ≤ (asendS d).val := by rw [asendS_val]; omega
theorem two_le_arecvS (d : ℕ) : 2 ≤ (arecvS d).val := by rw [arecvS_val]; omega

/-- A product block landed. -/
theorem landed_rows (c : Dev nD) (n : ℕ) (hn : n < 15) (fd : Buf (Elt F) ((rcvM c.val).view.loc (peer c (n + 1) : Thread nD τ))) :
    ((rcvM c.val).view.loc (peer c (n + 1) : Thread nD τ) ↦[(rcvM c.val).view.set]{fullShare}
        ((rcvM c.val).view.write (Elt F) fd (yblk m c n) Finset.univ)) ⊢ drPay m (peer c (n + 1)) (n + 1) := by
  have ey : yfor m c (peer c (n + 1)) = yblk m c n := by rw [yfor_peer m c (by omega) (by omega)]; rfl
  unfold drPay
  rw [peer_back c (show n + 1 ≤ 16 by omega), ey]
  unfold owns
  iintro H
  iexists ((rcvM c.val).view.write (Elt F) fd (yblk m c n) Finset.univ)
  isplitr; · ipureintro; exact View.read_write_univ (v := (rcvM c.val).view) fd (yblk m c n)
  iexact H

/-- The copy of the product block of step `n` to the peer at distance `n + 1`. -/
theorem step_send {α : Type} {K : α → sProp 𝕄} {k : PUnit → Prog (TpuEff nD τ sig (Elt F) Λ₀ .tc) α} {d : Dev nD} {S : Memref sig .tc .vmem S256x128 .bf16} {D : Memref sig .tc .vmem S256x128 .bf16} {X₁ X₂ : DmaSem sig}
    {hsc : D.view.ref.isScScratch = false} {hS : S.view.WordExact} {hD : D.view.WordExact}
    {hT : DmaTarget.Typed (nD := nD) (τ := τ) (p := .tc) .vmem (.dma X₂) (.remote (d : Thread nD τ) D (.dma X₁) hsc)}
    (hn : n < 15) (hy : n < y) (hu : u ≤ n) (ed : d = peer c (n + 1)) (eS : S = ysM n) (eD : D = rcvM c.val)
    (e₁ : X₁ = dsendS (n + 1)) (e₂ : X₂ = drecvS (n + 1))
    (h : St m c a 1 s w y (n + 1) g o₁ o₂ o₃ p q u v z ⊢ WP c (k ⟨⟩) K) :
    St m c a 1 s w y n g o₁ o₂ o₃ p q u v z
      ⊢ WP c (.op (.enqueueDma S (.remote (d : Thread nD τ) D (.dma X₁) hsc) (.dma X₂) hS hD hT) k) K := by
  subst ed eS eD e₁ e₂
  have hm₁ : 0 ∈ (Rd (F := F) m).duties (dmaC c (dsendS (n + 1))) 0 := by
    rw [duties_dma m c _ _ (duties_dsendS (by omega) (by omega))]; exact Finset.mem_singleton_self _
  have hm₂ : 0 ∈ (Rd (F := F) m).duties (dmaC (peer c (n + 1)) (drecvS (n + 1))) 0 := by
    rw [duties_dma m _ _ _ (duties_drecvS (by omega) (by omega))]; exact Finset.mem_singleton_self _
  have ha₁ : (Rd (F := F) m).amount (dmaC c (dsendS (n + 1))) 0 0 = Nd := by rw [amount_dma, amount_dsendS]
  have ha₂ : (Rd (F := F) m).amount (dmaC (peer c (n + 1)) (drecvS (n + 1))) 0 0 = Nd := by rw [amount_dma, amount_drecvS]
  have hp₁ (f : Buf (Elt F) ((ysM n).view.loc (c : Thread nD τ))) :
      ((ysM n).view.loc (c : Thread nD τ) ↦[(ysM n).view.set]{fullShare} f)
        ⊢ (Rd (F := F) m).payload (dmaC c (dsendS (n + 1))) 0 0 := by
    rw [payload_dma, pay_dsendS m c (by omega)]
    unfold dsPay anyOf
    iintro H; iexists f; iexact H
  have hp₂ (f : Buf (Elt F) ((ysM n).view.loc (c : Thread nD τ))) (hf : (ysM n).view.read (Elt F) f = yblk m c n)
      (fd : Buf (Elt F) ((rcvM c.val).view.loc (peer c (n + 1) : Thread nD τ))) :
      ((rcvM c.val).view.loc (peer c (n + 1) : Thread nD τ) ↦[(rcvM c.val).view.set]{fullShare}
          ((rcvM c.val).view.write (Elt F) fd ((ysM n).view.read (Elt F) f) Finset.univ))
        ⊢ (Rd (F := F) m).payload (dmaC (peer c (n + 1)) (drecvS (n + 1))) 0 0 := by
    rw [payload_dma, pay_drecvS m _ (by omega), hf]
    exact landed_rows m c n hn fd
  have rule (f : Buf (Elt F) ((ysM n).view.loc (c : Thread nD τ))) (hf : (ysM n).view.read (Elt F) f = yblk m c n)
      (fd : Buf (Elt F) ((rcvM c.val).view.loc (peer c (n + 1) : Thread nD τ))) (W : Waits sig Unit) (κ₁ κ₂ : ℕ) :=
    Rounds.wp_send_pointsTo (defs := defs₀ (F := F)) 𝒱₀ ER (Rd m) (c : Thread nD τ) none (Γ := []) (Q := K) (k := k) (Es := Set.univ)
      (c' := (peer c (n + 1) : Thread nD τ)) (κ₁ := κ₁) (κ₂ := κ₂)
      (src := ysM n) (dst := rcvM c.val) (hsc := hsc) (sS := .dma (dsendS (n + 1))) (sem := .dma (drecvS (n + 1))) (hsrc := hS) (hdst := hD) (hsem := hT)
      (q := fullShare) (fs := f) (fd := fd) (r₁ := 0) (r₂ := 0) (d₁ := 0) (d₂ := 0) hm₁ hm₂ () () Nd (rcv_amount c.val _) ha₁ ha₂
      (owing c a (n + 1) g) (owing_send c a g hn) (W := W) (hp₁ f) (hp₂ f hf fd)
  have key : iprop(env m ∗ cOwe c a n g ∗ cLand c 1 n g ∗ cProd m c y n u)
      ⊢ iprop(((cOwe c a (n + 1) g ∗ cLand c 1 (n + 1) g ∗ cProd m c y (n + 1) u) -∗ WP c (k ⟨⟩) K)
        -∗ WP c (.op (.enqueueDma (ysM n) (.remote (peer c (n + 1) : Thread nD τ) (rcvM c.val) (.dma (dsendS (n + 1))) hsc)
            (.dma (drecvS (n + 1))) hS hD hT) k) K) := by
    unfold cOwe cLand cProd
    simp only [one_ne_zero, if_false]
    rw [ico_head hy, ico_last (show u + 1 ≤ n + 1 by omega), ico_head (show n + 1 < 16 by omega),
      ico_head (Φ := fun d => iprop(dutyTok ER (dmaC c (dsendS d)) 0 0 ∗ dutyTok ER (dmaC (peer c d) (drecvS d)) 0 0)) (show n + 1 < 16 by omega)]
    unfold owns anyOf
    iintro ⟨#He, ⟨%W, Ho⟩, ⟨⟨⟨%fd, Hd⟩, Hl1⟩, Hl2⟩, Hs1, ⟨⟨%f, %hf, Hf⟩, Hs2⟩, ⟨⟨Ht₁, Ht₂⟩, Hs3⟩, Hs4, Hs5⟩ Hk
    ihave HI := (env_dma m c (dsendS (n + 1)) (two_le_dsendS _)) $$ He
    ihave HJ := (env_dma m (peer c (n + 1)) (drecvS (n + 1)) (two_le_drecvS _)) $$ He
    unfold knows
    icases HI with ⟨⟨%κ₁, #Hi⟩, #Hir⟩
    icases HJ with ⟨⟨%κ₂, #Hj⟩, #Hjr⟩
    iapply (rule f hf fd W κ₁ κ₂) $$ [Hf Hd Ho Ht₁ Ht₂]
    · isplitr; · iexact Hi
      isplitr; · iexact Hj
      isplitl [Hf]; · iexact Hf
      isplitl [Hd]; · iexact Hd
      isplitl [Ho]; · iexact Ho
      isplitl [Ht₁]; · iexact Ht₁
      isplitr; · iexact Hir
      isplitl [Ht₂]; · iexact Ht₂
      iexact Hjr
    iintro ⟨Hc, Ho⟩
    iapply Hk
    isplitl [Ho]; · iexists W; iexact Ho
    isplitl [Hl1 Hl2]
    · isplitl [Hl1]; · iexact Hl1
      iexact Hl2
    isplitl [Hs1]; · iexact Hs1
    isplitl [Hs2]; · iexact Hs2
    isplitl [Hs3]; · iexact Hs3
    isplitl [Hc Hs4]
    · isplitl [Hc]; · iexact Hc
      iexact Hs4
    iexact Hs5
  unfold St at h ⊢
  iintro ⟨#He, Ho, Hsig, Hbar, Hland, Hcopy, Hprod, Hrest⟩
  iapply key $$ [Ho Hland Hprod]
  · isplitr; · iexact He
    isplitl [Ho]; · iexact Ho
    isplitl [Hland]; · iexact Hland
    iexact Hprod
  iintro ⟨Ho, Hland, Hprod⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  iexact Hrest

/-! ### The device's own rows and maxima -/

/-- The load of the device's own rows before they are stored, -/
theorem step_ownload {α : Type} {K : α → sProp 𝕄} {off : Fin 2 → Nat} {inb : ∀ a, off a + S256x128.size a ≤ S4096x128.size a}
    {hl : rcvAll.view.LoadsAt (Rect.unit (s := S4096x128) off S256x128.size inb).toLoadRect}
    {k : (S256x128.Idx → Elt F .bf16) → Prog (TpuEff nD τ sig (Elt F) Λ₀ .tc) α} (eo : off = ![(c.val % 16) * 256, 0])
    (h : ∀ X, St m c a b s w y n g 0 o₂ o₃ p q u v z ⊢ WP c (k X) K) :
    St m c a b s w y n g 0 o₂ o₃ p q u v z
      ⊢ WP c (.op (.load rcvAll (Rect.unit (s := S4096x128) off S256x128.size inb).toLoadRect hl) k) K := by
  subst eo
  have rule := load_any (c := c) (K := K) (M := rcvAll) (R := rcvR c.val) (hl := hl) (fun _ => rfl) (k := k)
  have key : cRecv m c 0 q ⊢ iprop((∀ X, cRecv m c 0 q -∗ WP c (k X) K) -∗ WP c (.op (.load rcvAll (rcvR c.val).toLoadRect hl) k) K) := by
    unfold cRecv
    simp only [if_true]
    iintro ⟨Hs1, Hs2, Hs3, Hp⟩ Hk
    iapply rule $$ Hp
    iintro %X Hp
    iapply Hk
    isplitl [Hs1]; · iexact Hs1
    isplitl [Hs2]; · iexact Hs2
    isplitl [Hs3]; · iexact Hs3
    iexact Hp
  unfold St at h ⊢
  iintro ⟨#He, Ho, Hsig, Hbar, Hland, Hcopy, Hprod, Hrecv, Hrest⟩
  iapply key $$ Hrecv
  iintro %X Hrecv
  iapply (h X)
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  iexact Hrest

theorem yfor_self (c : Dev nD) : yfor m c c = yblk m c 15 := by
  unfold yfor; congr 1; omega

/-- and the store. -/
theorem step_ownstore {α : Type} {K : α → sProp 𝕄} {k : PUnit → Prog (TpuEff nD τ sig (Elt F) Λ₀ .tc) α} {off : Fin 2 → Nat} {inb : ∀ a, off a + S256x128.size a ≤ S4096x128.size a}
    {X : S256x128.Idx → Elt F .bf16} {hx : (rcvAll.access (Rect.unit (s := S4096x128) off S256x128.size inb)).Stores Finset.univ}
    {hm : (Finset.univ : Finset S256x128.Idx) = Finset.univ ∨ ∀ a, (Rect.unit (s := S4096x128) off S256x128.size inb).stride a = 1}
    (eo : off = ![(c.val % 16) * 256, 0]) (eX : X = yblk m c 15)
    (h : St m c a b s w y n g 1 o₂ o₃ p q u v z ⊢ WP c (k ⟨⟩) K) :
    St m c a b s w y n g 0 o₂ o₃ p q u v z
      ⊢ WP c (.op (.store rcvAll (Rect.unit (s := S4096x128) off S256x128.size inb) X Finset.univ hx hm) k) K := by
  subst eo eX
  have rule := store_any (c := c) (K := K) (k := k) (M := rcvAll) (R := rcvR c.val) (X := yblk m c 15) (hx := hx) (hm := hm) (fun _ => rfl)
  have key : cRecv m c 0 q ⊢ iprop((cRecv m c 1 q -∗ WP c (k ⟨⟩) K)
      -∗ WP c (.op (.store rcvAll (rcvR c.val) (yblk m c 15) Finset.univ hx hm) k) K) := by
    unfold cRecv
    simp only [if_true, one_ne_zero, if_false, yfor_self]
    iintro ⟨Hs1, Hs2, Hs3, Hp⟩ Hk
    iapply rule $$ Hp
    iintro Hp
    iapply Hk
    isplitl [Hs1]; · iexact Hs1
    isplitl [Hs2]; · iexact Hs2
    isplitl [Hs3]; · iexact Hs3
    iexact Hp
  unfold St at h ⊢
  iintro ⟨#He, Ho, Hsig, Hbar, Hland, Hcopy, Hprod, Hrecv, Hrest⟩
  iapply key $$ Hrecv
  iintro Hrecv
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  iexact Hrest

/-- The load of the device's own slab of maxima before it is stored, -/
theorem step_slabload {α : Type} {K : α → sProp 𝕄} {hl : amAll.view.LoadsAt (amR 0).toLoadRect}
    {k : ((amR 0).toLoadRect.shape.Idx → Elt F .f32) → Prog (TpuEff nD τ sig (Elt F) Λ₀ .tc) α}
    (h : ∀ X, St m c a b s w y n g o₁ o₂ 0 p q u v z ⊢ WP c (k X) K) :
    St m c a b s w y n g o₁ o₂ 0 p q u v z ⊢ WP c (.op (.load amAll (amR 0).toLoadRect hl) k) K := by
  have rule := load_any (c := c) (K := K) (M := amAll) (R := amR 0) (hl := hl) (fun _ => rfl) (k := k)
  have key : cMaxR m c 0 p ⊢ iprop((∀ X, cMaxR m c 0 p -∗ WP c (k X) K) -∗ WP c (.op (.load amAll (amR 0).toLoadRect hl) k) K) := by
    unfold cMaxR
    simp only [if_true]
    iintro ⟨Hs1, Hs2, Hs3, Hp⟩ Hk
    iapply rule $$ Hp
    iintro %X Hp
    iapply Hk
    isplitl [Hs1]; · iexact Hs1
    isplitl [Hs2]; · iexact Hs2
    isplitl [Hs3]; · iexact Hs3
    iexact Hp
  unfold St at h ⊢
  iintro ⟨#He, Ho, Hsig, Hbar, Hland, Hcopy, Hprod, Hrecv, Hmax, Hmaxr, Hrest⟩
  iapply key $$ Hmaxr
  iintro %X Hmaxr
  iapply (h X)
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  iexact Hrest

/-- and the store. -/
theorem step_slabstore {α : Type} {K : α → sProp 𝕄} {k : PUnit → Prog (TpuEff nD τ sig (Elt F) Λ₀ .tc) α} {X : (amR 0).shape.Idx → Elt F .f32} {hx : (amAll.access (amR 0)).Stores Finset.univ}
    {hm : (Finset.univ : Finset (amR 0).shape.Idx) = Finset.univ ∨ ∀ a, (amR 0).stride a = 1} (eX : X = amxOwn m c)
    (h : St m c a b s w y n g o₁ o₂ 1 p q u v z ⊢ WP c (k ⟨⟩) K) :
    St m c a b s w y n g o₁ o₂ 0 p q u v z ⊢ WP c (.op (.store amAll (amR 0) X Finset.univ hx hm) k) K := by
  subst eX
  have rule := store_any (c := c) (K := K) (k := k) (M := amAll) (R := amR 0) (X := amxOwn m c) (hx := hx) (hm := hm) (fun _ => rfl)
  have key : cMaxR m c 0 p ⊢ iprop((cMaxR m c 1 p -∗ WP c (k ⟨⟩) K)
      -∗ WP c (.op (.store amAll (amR 0) (amxOwn m c) Finset.univ hx hm) k) K) := by
    unfold cMaxR
    simp only [if_true, one_ne_zero, if_false]
    iintro ⟨Hs1, Hs2, Hs3, Hp⟩ Hk
    iapply rule $$ Hp
    iintro Hp
    iapply Hk
    isplitl [Hs1]; · iexact Hs1
    isplitl [Hs2]; · iexact Hs2
    isplitl [Hs3]; · iexact Hs3
    iexact Hp
  unfold St at h ⊢
  iintro ⟨#He, Ho, Hsig, Hbar, Hland, Hcopy, Hprod, Hrecv, Hmax, Hmaxr, Hrest⟩
  iapply key $$ Hmaxr
  iintro Hmaxr
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  iexact Hrest

end Steps

end Cert.KernelIdealProof

end
-- ==== Proof.Ideal.StepsMax.lean ====
/-
# Maxima, and the waits after the last send

The maxima's buffer and the copies out of it, then the four kinds of waits that follow when nothing is owed any more.
-/
module

public import proofs.«01_k».proof.Proof.Ideal.StepsSend

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

variable {c : Dev nD} {a b s w y n g o₁ o₂ o₃ p q u v z : ℕ}

theorem mayWait_done (c : Dev nD) (X : DmaSem sig) : levs (F := F) ⊢ MayWait (c : Thread nD τ) (.dma X) () (owing c 15 15 15) := by
  rw [owing_done, MayWait_zero]; iintro -; iempintro

/-! ### The maxima to send -/

omit [FloatOps F] in
theorem amSrc_set : amSrc.view.set = Finset.univ := View.set_whole _

/-- The load of the maxima's buffer before they are stored, -/
theorem step_maxload {α : Type} {K : α → sProp 𝕄} {inb : ∀ a, (![0, 0] : Fin 2 → Nat) a + S8x128.size a ≤ S8x128.size a}
    {hl : amSrc.view.LoadsAt (Rect.unit (s := S8x128) ![0, 0] S8x128.size inb).toLoadRect}
    {k : (S8x128.Idx → Elt F .f32) → Prog (TpuEff nD τ sig (Elt F) Λ₀ .tc) α}
    (h : ∀ X, St m c a b s w y n g o₁ 0 o₃ p q u v z ⊢ WP c (k X) K) :
    St m c a b s w y n g o₁ 0 o₃ p q u v z ⊢ WP c (.op (.load amSrc (Rect.unit (s := S8x128) ![0, 0] S8x128.size inb).toLoadRect hl) k) K := by
  have rule (f : Buf (Elt F) (amSrc.view.loc (c : Thread nD τ))) := wp_load (defs := defs₀ (F := F)) 𝒱₀ (c : Thread nD τ) none Set.univ (Γ := []) (Ix := Unit) (Name := ℕ) (U := UU) (Lvl := ℕ) (Q := K)
      (m := amSrc) (r := (Rect.unit (s := S8x128) ![0, 0] S8x128.size inb).toLoadRect) (hl := hl) (k := k) (q := fullShare) (f := f)
      (S := amSrc.view.set) (by rw [amSrc_set]; exact Finset.subset_univ _)
  have key : cMax m c 0 g v ⊢ iprop((∀ X, cMax m c 0 g v -∗ WP c (k X) K)
      -∗ WP c (.op (.load amSrc (Rect.unit (s := S8x128) ![0, 0] S8x128.size inb).toLoadRect hl) k) K) := by
    unfold cMax anyOf
    simp only [if_true]
    iintro ⟨⟨%f, Hf⟩, Hs⟩ Hk
    iapply (rule f) $$ Hf
    iintro Hf
    iapply Hk
    isplitl [Hf]; · iexists f; iexact Hf
    iexact Hs
  unfold St at h ⊢
  iintro ⟨#He, Ho, Hsig, Hbar, Hland, Hcopy, Hprod, Hrecv, Hmax, Hrest⟩
  iapply key $$ Hmax
  iintro %X Hmax
  iapply (h X)
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  iexact Hrest

/-- A buffer of maxima split among the copies that read it. -/
theorem am_split (c : Dev nD) (f : Buf (Elt F) (amSrc.view.loc (c : Thread nD τ))) :
    (amSrc.view.loc (c : Thread nD τ) ↦[amSrc.view.set]{fullShare} f : sProp 𝕄)
      = iprop((amSrc.view.loc (c : Thread nD τ) ↦[amSrc.view.set]{Transfers.shareDrop fullShare 15} f)
        ∗ bigSep (Finset.Ico 1 16) fun d => (amSrc.view.loc (c : Thread nD τ) ↦[amSrc.view.set]{amTok d} f)) := by
  rw [show bigSep (Finset.Ico 1 16) (fun d => (amSrc.view.loc (c : Thread nD τ) ↦[amSrc.view.set]{amTok d} f : sProp 𝕄))
    = bigSep (Finset.range 15) (fun i => (amSrc.view.loc (c : Thread nD τ) ↦[amSrc.view.set]{Transfers.shareTokN fullShare i} f)) from by
      rw [show Finset.Ico 1 16 = (Finset.range 15).map (addRightEmbedding 1) by decide, BI.bigSep_map]; rfl]
  have e := Transfers.pointsTo_toks_range (nD := nD) (τ := τ) (sig := sig) (Ix := Unit) (Val := Elt F) (Name := ℕ) (U := UU) (Lvl := ℕ)
    (ℓ := amSrc.view.loc (c : Thread nD τ)) (S := amSrc.view.set) (f := f) fullShare 15
  exact BI.equiv_iff.mp ⟨e.1, e.2⟩

/-- and the store. -/
theorem step_maxstore {α : Type} {K : α → sProp 𝕄} {k : PUnit → Prog (TpuEff nD τ sig (Elt F) Λ₀ .tc) α} {inb : ∀ a, (![0, 0] : Fin 2 → Nat) a + S8x128.size a ≤ S8x128.size a}
    {X : S8x128.Idx → Elt F .f32} {hx : (amSrc.access (Rect.unit (s := S8x128) ![0, 0] S8x128.size inb)).Stores Finset.univ}
    {hm : (Finset.univ : Finset S8x128.Idx) = Finset.univ ∨ ∀ a, (Rect.unit (s := S8x128) ![0, 0] S8x128.size inb).stride a = 1}
    (eX : X = amx m c)
    (h : St m c a b s w y n 0 o₁ 1 o₃ p q u v z ⊢ WP c (k ⟨⟩) K) :
    St m c a b s w y n 0 o₁ 0 o₃ p q u v z
      ⊢ WP c (.op (.store amSrc (Rect.unit (s := S8x128) ![0, 0] S8x128.size inb) X Finset.univ hx hm) k) K := by
  subst eX
  have rule (f : Buf (Elt F) (amSrc.view.loc (c : Thread nD τ))) := wp_store (defs := defs₀ (F := F)) 𝒱₀ (c : Thread nD τ) none Set.univ (Γ := []) (Ix := Unit) (Name := ℕ) (U := UU) (Lvl := ℕ) (Q := K)
      (m := amSrc) (r := Rect.unit (s := S8x128) ![0, 0] S8x128.size inb) (w := amx m c) (Mk := Finset.univ) (hx := hx) (hm := hm) (k := k) (f := f)
      (S := amSrc.view.set) (by rw [amSrc_set]; exact Finset.subset_univ _)
  have ew (f : Buf (Elt F) (amSrc.view.loc (c : Thread nD τ))) :
      (amSrc.access (Rect.unit (s := S8x128) ![0, 0] S8x128.size inb)).write (Elt F) f (amx m c) Finset.univ = amx m c :=
    Memref.write_access_unit_zero_univ (Elt F) cc0_scratch3 zero2 _ _ _
  simp only [ew] at rule
  have key : cMax m c 0 0 v ⊢ iprop((cMax m c 1 0 v -∗ WP c (k ⟨⟩) K)
      -∗ WP c (.op (.store amSrc (Rect.unit (s := S8x128) ![0, 0] S8x128.size inb) (amx m c) Finset.univ hx hm) k) K) := by
    unfold cMax anyOf asPay
    simp only [if_true, one_ne_zero, if_false, Nat.zero_add]
    rw [← am_split]
    iintro ⟨⟨%f, Hf⟩, Hs⟩ Hk
    iapply (rule f) $$ Hf
    iintro Hf
    iapply Hk
    isplitl [Hf]; · iexact Hf
    iexact Hs
  unfold St at h ⊢
  iintro ⟨#He, Ho, Hsig, Hbar, Hland, Hcopy, Hprod, Hrecv, Hmax, Hrest⟩
  iapply key $$ Hmax
  iintro Hmax
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  iexact Hrest

/-- Maxima landed. -/
theorem landed_max (c : Dev nD) (g : ℕ) (hg : g < 15) (fd : Buf (Elt F) ((amM (g + 1)).view.loc (peer c (g + 1) : Thread nD τ))) :
    ((amM (g + 1)).view.loc (peer c (g + 1) : Thread nD τ) ↦[(amM (g + 1)).view.set]{fullShare}
        ((amM (g + 1)).view.write (Elt F) fd (amx m c) Finset.univ)) ⊢ arPay m (peer c (g + 1)) (g + 1) := by
  unfold arPay owns
  rw [peer_back c (show g + 1 ≤ 16 by omega)]
  refine .trans ?_ (exists_intro ((amM (g + 1)).view.write (Elt F) fd (amx m c) Finset.univ))
  have e : (am3 (g + 1)).view.read (Elt F) ((amM (g + 1)).view.write (Elt F) fd (amx m c) Finset.univ) = amx3 m c := by
    funext j
    rw [read_squeeze (am3 (g + 1)) squeezes_S1x8x128_S8x128]
    exact congrFun (View.read_write_univ (v := (amM (g + 1)).view) fd (amx m c)) _
  rw [show (amM (g + 1)).view.set = (am3 (g + 1)).view.set from View.set_reshape _ _]
  iintro H
  isplitr; · ipureintro; exact e
  iexact H

/-- The copy of the maxima to the peer at distance `g + 1`. -/
theorem step_maxsend {α : Type} {K : α → sProp 𝕄} {k : PUnit → Prog (TpuEff nD τ sig (Elt F) Λ₀ .tc) α} {d : Dev nD} {D : Memref sig .tc .vmem S8x128 .f32} {X₁ X₂ : DmaSem sig}
    {hsc : D.view.ref.isScScratch = false} {hS : amSrc.view.WordExact} {hD : D.view.WordExact}
    {hT : DmaTarget.Typed (nD := nD) (τ := τ) (p := .tc) .vmem (.dma X₂) (.remote (d : Thread nD τ) D (.dma X₁) hsc)}
    (hg : g < 15) (hv : v ≤ g) (ed : d = peer c (g + 1)) (eD : D = amM (g + 1))
    (e₁ : X₁ = asendS (g + 1)) (e₂ : X₂ = arecvS (g + 1))
    (h : St m c 15 1 s w y 15 (g + 1) o₁ 1 o₃ p q u v z ⊢ WP c (k ⟨⟩) K) :
    St m c 15 1 s w y 15 g o₁ 1 o₃ p q u v z
      ⊢ WP c (.op (.enqueueDma amSrc (.remote (d : Thread nD τ) D (.dma X₁) hsc) (.dma X₂) hS hD hT) k) K := by
  subst ed eD e₁ e₂
  have hm₁ : 0 ∈ (Rd (F := F) m).duties (dmaC c (asendS (g + 1))) 0 := by
    rw [duties_dma m c _ _ (duties_asendS (by omega) (by omega))]; exact Finset.mem_singleton_self _
  have hm₂ : 0 ∈ (Rd (F := F) m).duties (dmaC (peer c (g + 1)) (arecvS (g + 1))) 0 := by
    rw [duties_dma m _ _ _ (duties_arecvS (by omega) (by omega))]; exact Finset.mem_singleton_self _
  have ha₁ : (Rd (F := F) m).amount (dmaC c (asendS (g + 1))) 0 0 = Na := by rw [amount_dma, amount_asendS]
  have ha₂ : (Rd (F := F) m).amount (dmaC (peer c (g + 1)) (arecvS (g + 1))) 0 0 = Na := by rw [amount_dma, amount_arecvS]
  have hp₁ : (amSrc.view.loc (c : Thread nD τ) ↦[amSrc.view.set]{amTok (g + 1)} amx m c)
        ⊢ (Rd (F := F) m).payload (dmaC c (asendS (g + 1))) 0 0 := by
    rw [payload_dma, pay_asendS m c (by omega)]
    unfold asPay
    exact .rfl
  have er : amSrc.view.read (Elt F) (amx m c) = amx m c := View.read_whole _ _
  have hp₂ (fd : Buf (Elt F) ((amM (g + 1)).view.loc (peer c (g + 1) : Thread nD τ))) :
      ((amM (g + 1)).view.loc (peer c (g + 1) : Thread nD τ) ↦[(amM (g + 1)).view.set]{fullShare}
          ((amM (g + 1)).view.write (Elt F) fd (amSrc.view.read (Elt F) (amx m c)) Finset.univ))
        ⊢ (Rd (F := F) m).payload (dmaC (peer c (g + 1)) (arecvS (g + 1))) 0 0 := by
    rw [payload_dma, pay_arecvS m _ (by omega), er]
    exact landed_max m c g hg fd
  have rule (fd : Buf (Elt F) ((amM (g + 1)).view.loc (peer c (g + 1) : Thread nD τ))) (W : Waits sig Unit) (κ₁ κ₂ : ℕ) :=
    Rounds.wp_send_pointsTo (defs := defs₀ (F := F)) 𝒱₀ ER (Rd m) (c : Thread nD τ) none (Γ := []) (Q := K) (k := k) (Es := Set.univ)
      (c' := (peer c (g + 1) : Thread nD τ)) (κ₁ := κ₁) (κ₂ := κ₂)
      (src := amSrc) (dst := amM (g + 1)) (hsc := hsc) (sS := .dma (asendS (g + 1))) (sem := .dma (arecvS (g + 1))) (hsrc := hS) (hdst := hD) (hsem := hT)
      (q := amTok (g + 1)) (fs := amx m c) (fd := fd) (r₁ := 0) (r₂ := 0) (d₁ := 0) (d₂ := 0) hm₁ hm₂ () () Na (am_amount (g + 1) _) ha₁ ha₂
      (owing c 15 15 (g + 1)) (owing_max c 15 15 hg) (W := W) hp₁ (hp₂ fd)
  have eset : (amM (g + 1)).view.set = (am3 (g + 1)).view.set := View.set_reshape _ _
  have key : iprop(env m ∗ cOwe c 15 15 g ∗ cLand c 1 15 g ∗ cMax m c 1 g v)
      ⊢ iprop(((cOwe c 15 15 (g + 1) ∗ cLand c 1 15 (g + 1) ∗ cMax m c 1 (g + 1) v) -∗ WP c (k ⟨⟩) K)
        -∗ WP c (.op (.enqueueDma amSrc (.remote (peer c (g + 1) : Thread nD τ) (amM (g + 1)) (.dma (asendS (g + 1))) hsc)
            (.dma (arecvS (g + 1))) hS hD hT) k) K) := by
    unfold cOwe cLand cMax
    simp only [one_ne_zero, if_false]
    rw [ico_last (show v + 1 ≤ g + 1 by omega), ico_head (show g + 1 < 16 by omega),
      ico_head (Φ := fun d => asPay m c d) (show g + 1 < 16 by omega),
      ico_head (Φ := fun d => iprop(dutyTok ER (dmaC c (asendS d)) 0 0 ∗ dutyTok ER (dmaC (peer c d) (arecvS d)) 0 0)) (show g + 1 < 16 by omega)]
    unfold anyOf
    rw [show asPay m c (g + 1) = (amSrc.view.loc (c : Thread nD τ) ↦[amSrc.view.set]{amTok (g + 1)} amx m c) from rfl]
    iintro ⟨#He, ⟨%W, Ho⟩, ⟨Hl1, ⟨%fd, Hd⟩, Hl2⟩, ⟨Hs1, Hf, Hs2⟩, ⟨⟨Ht₁, Ht₂⟩, Hs3⟩, Hs4, Hs5⟩ Hk
    ihave HI := (env_dma m c (asendS (g + 1)) (two_le_asendS _)) $$ He
    ihave HJ := (env_dma m (peer c (g + 1)) (arecvS (g + 1)) (two_le_arecvS _)) $$ He
    unfold knows
    icases HI with ⟨⟨%κ₁, #Hi⟩, #Hir⟩
    icases HJ with ⟨⟨%κ₂, #Hj⟩, #Hjr⟩
    iapply (rule fd W κ₁ κ₂) $$ [Hf Hd Ho Ht₁ Ht₂]
    · isplitr; · iexact Hi
      isplitr; · iexact Hj
      isplitl [Hf]; · iexact Hf
      isplitl [Hd]; · iexact Hd
      isplitl [Ho]; · iexact Ho
      isplitl [Ht₁]; · iexact Ht₁
      isplitr; · iexact Hir
      isplitl [Ht₂]; · iexact Ht₂
      iexact Hjr
    iintro ⟨Hc, Ho⟩
    iapply Hk
    isplitl [Ho]; · iexists W; iexact Ho
    isplitl [Hl1 Hl2]
    · isplitl [Hl1]; · iexact Hl1
      iexact Hl2
    isplitl [Hs1 Hs2]
    · isplitl [Hs1]; · iexact Hs1
      iexact Hs2
    isplitl [Hs3]; · iexact Hs3
    isplitl [Hc Hs4]
    · isplitl [Hc]; · iexact Hc
      iexact Hs4
    iexact Hs5
  unfold St at h ⊢
  iintro ⟨#He, Ho, Hsig, Hbar, Hland, Hcopy, Hprod, Hrecv, Hmax, Hrest⟩
  iapply key $$ [Ho Hland Hmax]
  · isplitr; · iexact He
    isplitl [Ho]; · iexact Ho
    isplitl [Hland]; · iexact Hland
    iexact Hmax
  iintro ⟨Ho, Hland, Hmax⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  iexact Hrest

/-! ### The waits after the last send -/

/-- The wait for the maxima of the device `p + 1` before. -/
theorem step_arwait {α : Type} {K : α → sProp 𝕄} {k : PUnit → Prog (TpuEff nD τ sig (Elt F) Λ₀ .tc) α} {S : DmaSem sig} {sp sp' : Space} {sh : Shape} {e : EltTy} {M : Memref sig .tc sp sh e} {D : Memref sig .tc sp' sh e}
    {hM : M.view.WordExact} {hD : D.view.WordExact} (hlt : p < 15) (eS : S = arecvS (p + 1)) (hc : D.view.dmaCredit = Na)
    (h : St m c 15 1 s w y 15 15 o₁ o₂ o₃ (p + 1) q u v z ⊢ WP c (k ⟨⟩) K) :
    St m c 15 1 s w y 15 15 o₁ o₂ o₃ p q u v z ⊢ WP c (.op (.waitDma2 S M D hM hD) k) K := by
  subst eS
  have rule (W : Waits sig Unit) := wait_dma m (c := c) (K := K) (k := k) (M := M) (D := D) (hM := hM) (hD := hD) (W := W) (two_le_arecvS (p + 1))
    (duties_arecvS (show 1 ≤ p + 1 by omega) (show p + 1 < 16 by omega)) (amount_arecvS (p + 1)) hc (mayWait_done c _)
  rw [pay_arecvS m c (show p + 1 < 16 by omega)] at rule
  have key : iprop(env m ∗ cOwe c 15 15 15 ∗ cMaxR m c o₃ p) ⊢ iprop(((cOwe c 15 15 15 ∗ cMaxR m c o₃ (p + 1)) -∗ WP c (k ⟨⟩) K)
      -∗ WP c (.op (.waitDma2 (arecvS (p + 1)) M D hM hD) k) K) := by
    unfold cMaxR cOwe
    rw [ico_head (show p + 1 < 16 by omega), ico_last (show 1 ≤ p + 1 by omega), ico_last (Φ := fun d => atPos ER (dmaC c (arecvS d)) 1 ∅ 0) (show 1 ≤ p + 1 by omega)]
    iintro ⟨#He, ⟨%W, Ho⟩, ⟨⟨Hcr, Hat⟩, Hs1⟩, Hs2, Hs3, Hs4⟩ Hk
    iapply (rule W) $$ [Hcr Ho Hat]
    · isplitr; · iexact He
      isplitl [Hcr]; · iexact Hcr
      isplitl [Ho]; · iexact Ho
      iexact Hat
    iintro ⟨Ho, Hat, -, Hp⟩
    iapply Hk
    isplitl [Ho]; · iexact Ho
    isplitl [Hs1]; · iexact Hs1
    isplitl [Hp Hs2]
    · isplitl [Hp]; · iexact Hp
      iexact Hs2
    isplitl [Hat Hs3]
    · isplitl [Hat]; · iexact Hat
      iexact Hs3
    iexact Hs4
  unfold St at h ⊢
  iintro ⟨#He, Ho, Hsig, Hbar, Hland, Hcopy, Hprod, Hrecv, Hmax, Hmaxr, Hrest⟩
  iapply key $$ [Ho Hmaxr]
  · isplitr; · iexact He
    isplitl [Ho]; · iexact Ho
    iexact Hmaxr
  iintro ⟨Ho, Hmaxr⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  iexact Hrest

/-- The wait for the rows of the device `q + 1` before. -/
theorem step_drwait {α : Type} {K : α → sProp 𝕄} {k : PUnit → Prog (TpuEff nD τ sig (Elt F) Λ₀ .tc) α} {S : DmaSem sig} {sp sp' : Space} {sh : Shape} {e : EltTy} {M : Memref sig .tc sp sh e} {D : Memref sig .tc sp' sh e}
    {hM : M.view.WordExact} {hD : D.view.WordExact} (hlt : q < 15) (eS : S = drecvS (q + 1)) (hc : D.view.dmaCredit = Nd)
    (h : St m c 15 1 s w y 15 15 o₁ o₂ o₃ p (q + 1) u v z ⊢ WP c (k ⟨⟩) K) :
    St m c 15 1 s w y 15 15 o₁ o₂ o₃ p q u v z ⊢ WP c (.op (.waitDma2 S M D hM hD) k) K := by
  subst eS
  have rule (W : Waits sig Unit) := wait_dma m (c := c) (K := K) (k := k) (M := M) (D := D) (hM := hM) (hD := hD) (W := W) (two_le_drecvS (q + 1))
    (duties_drecvS (show 1 ≤ q + 1 by omega) (show q + 1 < 16 by omega)) (amount_drecvS (q + 1)) hc (mayWait_done c _)
  rw [pay_drecvS m c (show q + 1 < 16 by omega)] at rule
  have key : iprop(env m ∗ cOwe c 15 15 15 ∗ cRecv m c o₁ q) ⊢ iprop(((cOwe c 15 15 15 ∗ cRecv m c o₁ (q + 1)) -∗ WP c (k ⟨⟩) K)
      -∗ WP c (.op (.waitDma2 (drecvS (q + 1)) M D hM hD) k) K) := by
    unfold cRecv cOwe
    rw [ico_head (show q + 1 < 16 by omega), ico_last (show 1 ≤ q + 1 by omega), ico_last (Φ := fun d => atPos ER (dmaC c (drecvS d)) 1 ∅ 0) (show 1 ≤ q + 1 by omega)]
    iintro ⟨#He, ⟨%W, Ho⟩, ⟨⟨Hcr, Hat⟩, Hs1⟩, Hs2, Hs3, Hs4⟩ Hk
    iapply (rule W) $$ [Hcr Ho Hat]
    · isplitr; · iexact He
      isplitl [Hcr]; · iexact Hcr
      isplitl [Ho]; · iexact Ho
      iexact Hat
    iintro ⟨Ho, Hat, -, Hp⟩
    iapply Hk
    isplitl [Ho]; · iexact Ho
    isplitl [Hs1]; · iexact Hs1
    isplitl [Hp Hs2]
    · isplitl [Hp]; · iexact Hp
      iexact Hs2
    isplitl [Hat Hs3]
    · isplitl [Hat]; · iexact Hat
      iexact Hs3
    iexact Hs4
  unfold St at h ⊢
  iintro ⟨#He, Ho, Hsig, Hbar, Hland, Hcopy, Hprod, Hrecv, Hrest⟩
  iapply key $$ [Ho Hrecv]
  · isplitr; · iexact He
    isplitl [Ho]; · iexact Ho
    iexact Hrecv
  iintro ⟨Ho, Hrecv⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  iexact Hrest

/-- The wait for the product block sent at distance `u + 1`. -/
theorem step_dswait {α : Type} {K : α → sProp 𝕄} {k : PUnit → Prog (TpuEff nD τ sig (Elt F) Λ₀ .tc) α} {S : DmaSem sig} {sp sp' : Space} {sh : Shape} {e : EltTy} {M : Memref sig .tc sp sh e} {D : Memref sig .tc sp' sh e}
    {hM : M.view.WordExact} {hD : D.view.WordExact} (hlt : u < 15) (eS : S = dsendS (u + 1)) (hc : D.view.dmaCredit = Nd)
    (h : St m c 15 1 s w y 15 15 o₁ o₂ o₃ p q (u + 1) v z ⊢ WP c (k ⟨⟩) K) :
    St m c 15 1 s w y 15 15 o₁ o₂ o₃ p q u v z ⊢ WP c (.op (.waitDma2 S M D hM hD) k) K := by
  subst eS
  have rule (W : Waits sig Unit) := wait_dma m (c := c) (K := K) (k := k) (M := M) (D := D) (hM := hM) (hD := hD) (W := W) (two_le_dsendS (u + 1))
    (duties_dsendS (show 1 ≤ u + 1 by omega) (show u + 1 < 16 by omega)) (amount_dsendS (u + 1)) hc (mayWait_done c _)
  rw [pay_dsendS m c (show u + 1 < 16 by omega)] at rule
  have key : iprop(env m ∗ cOwe c 15 15 15 ∗ cProd m c y 15 u) ⊢ iprop(((cOwe c 15 15 15 ∗ cProd m c y 15 (u + 1)) -∗ WP c (k ⟨⟩) K)
      -∗ WP c (.op (.waitDma2 (dsendS (u + 1)) M D hM hD) k) K) := by
    unfold cProd cOwe
    rw [ico_head (show u + 1 < 15 + 1 by omega), ico_head (show u + 1 < 16 by omega), ico_last (show 1 ≤ u + 1 by omega)]
    iintro ⟨#He, ⟨%W, Ho⟩, Hs1, Hs2, Hs3, ⟨Hcr, Hs4⟩, ⟨Hat, Hs5⟩, Hs6⟩ Hk
    iapply (rule W) $$ [Hcr Ho Hat]
    · isplitr; · iexact He
      isplitl [Hcr]; · iexact Hcr
      isplitl [Ho]; · iexact Ho
      iexact Hat
    iintro ⟨Ho, Hat, -, Hp⟩
    iapply Hk
    isplitl [Ho]; · iexact Ho
    isplitl [Hs1]; · iexact Hs1
    isplitl [Hs2]; · iexact Hs2
    isplitl [Hs3]; · iexact Hs3
    isplitl [Hs4]; · iexact Hs4
    isplitl [Hs5]; · iexact Hs5
    isplitl [Hp Hat]
    · isplitl [Hp]; · iexact Hp
      iexact Hat
    iexact Hs6
  unfold St at h ⊢
  iintro ⟨#He, Ho, Hsig, Hbar, Hland, Hcopy, Hprod, Hrest⟩
  iapply key $$ [Ho Hprod]
  · isplitr; · iexact He
    isplitl [Ho]; · iexact Ho
    iexact Hprod
  iintro ⟨Ho, Hprod⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  iexact Hrest

/-- The wait for the maxima sent at distance `v + 1`. -/
theorem step_aswait {α : Type} {K : α → sProp 𝕄} {k : PUnit → Prog (TpuEff nD τ sig (Elt F) Λ₀ .tc) α} {S : DmaSem sig} {sp sp' : Space} {sh : Shape} {e : EltTy} {M : Memref sig .tc sp sh e} {D : Memref sig .tc sp' sh e}
    {hM : M.view.WordExact} {hD : D.view.WordExact} (hlt : v < 15) (eS : S = asendS (v + 1)) (hc : D.view.dmaCredit = Na)
    (h : St m c 15 1 s w y 15 15 o₁ o₂ o₃ p q u (v + 1) z ⊢ WP c (k ⟨⟩) K) :
    St m c 15 1 s w y 15 15 o₁ o₂ o₃ p q u v z ⊢ WP c (.op (.waitDma2 S M D hM hD) k) K := by
  subst eS
  have rule (W : Waits sig Unit) := wait_dma m (c := c) (K := K) (k := k) (M := M) (D := D) (hM := hM) (hD := hD) (W := W) (two_le_asendS (v + 1))
    (duties_asendS (show 1 ≤ v + 1 by omega) (show v + 1 < 16 by omega)) (amount_asendS (v + 1)) hc (mayWait_done c _)
  rw [pay_asendS m c (show v + 1 < 16 by omega)] at rule
  have key : iprop(env m ∗ cOwe c 15 15 15 ∗ cMax m c o₂ 15 v) ⊢ iprop(((cOwe c 15 15 15 ∗ cMax m c o₂ 15 (v + 1)) -∗ WP c (k ⟨⟩) K)
      -∗ WP c (.op (.waitDma2 (asendS (v + 1)) M D hM hD) k) K) := by
    unfold cMax cOwe
    rw [ico_head (show v + 1 < 15 + 1 by omega), ico_head (show v + 1 < 16 by omega), ico_last (show 1 ≤ v + 1 by omega), ico_last (Φ := fun d => atPos ER (dmaC c (asendS d)) 1 ∅ 0) (show 1 ≤ v + 1 by omega)]
    iintro ⟨#He, ⟨%W, Ho⟩, Hs1, Hs3, ⟨Hcr, Hs4⟩, ⟨Hat, Hs5⟩, Hs6, Hs7⟩ Hk
    iapply (rule W) $$ [Hcr Ho Hat]
    · isplitr; · iexact He
      isplitl [Hcr]; · iexact Hcr
      isplitl [Ho]; · iexact Ho
      iexact Hat
    iintro ⟨Ho, Hat, -, Hp⟩
    iapply Hk
    isplitl [Ho]; · iexact Ho
    isplitl [Hs1]; · iexact Hs1
    isplitl [Hs3]; · iexact Hs3
    isplitl [Hs4]; · iexact Hs4
    isplitl [Hs5]; · iexact Hs5
    isplitl [Hp Hs6]
    · isplitl [Hp]; · iexact Hp
      iexact Hs6
    isplitl [Hat]; · iexact Hat
    iexact Hs7
  unfold St at h ⊢
  iintro ⟨#He, Ho, Hsig, Hbar, Hland, Hcopy, Hprod, Hrecv, Hmax, Hrest⟩
  iapply key $$ [Ho Hmax]
  · isplitr; · iexact He
    isplitl [Ho]; · iexact Ho
    iexact Hmax
  iintro ⟨Ho, Hmax⟩
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  iexact Hrest

end Steps

end Cert.KernelIdealProof

end
-- ==== Proof.Ideal.StepsOut.lean ====
/-
# Loads of what landed, and the result

The landing buffers are read as wholes once all their pieces are there. The result is stored once.
-/
module

public import proofs.«01_k».proof.Proof.Ideal.StepsMax

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

variable {c : Dev nD} {a b s w y n g o₁ o₂ o₃ p q u v z : ℕ}

/-- The pieces numbered from `0` to `15`, as pieces of a finite type. -/
theorem ico_fin16 (Φ : ℕ → sProp 𝕄) : bigSep (Finset.Ico 0 16) Φ = bigSep Finset.univ (fun d : Fin 16 => Φ d.val) := by
  rw [show Finset.Ico 0 16 = (Finset.univ : Finset (Fin 16)).map Fin.valEmbedding by decide, BI.bigSep_map]; rfl

theorem sep_swap (P Q : sProp 𝕄) : iprop(P ∗ Q) = iprop(Q ∗ P) := BI.equiv_iff.mp ⟨(Laws.sep_comm (P := P) (Q := Q)).1, (Laws.sep_comm (P := P) (Q := Q)).2⟩

/-- All slabs of maxima. -/
theorem am_pieces (c : Dev nD) :
    iprop((bigSep (Finset.Ico 1 16) fun d => arPay m c d) ∗ owns (c : Thread nD τ) (am3 0) fullShare (amxOwn m c))
      = bigSep Finset.univ (fun d : Fin 16 => owns (c : Thread nD τ) (amAll.slice (amR d.val) (fun _ => rfl)) fullShare
          (fun j => amFull m c ((amR d.val).emb j))) := by
  have e : ∀ d : Fin 16, (fun j => amFull m c ((amR d.val).emb j)) = amAt m c d.val := fun d => funext fun j =>
    Rect.glue_emb (fun d : Fin 16 => amR d.val) am_cover am_disj (fun d => amAt m c d.val) d j
  simp only [e]
  rw [← ico_fin16 (fun d => owns (c : Thread nD τ) (am3 d) fullShare (amAt m c d)), ico_head (show 0 < 16 by omega), sep_swap]
  refine congrArg (fun P => iprop(owns (c : Thread nD τ) (am3 0) fullShare (amxOwn m c) ∗ P)) (bigSep_congr fun d hd => ?_)
  have h1 := (Finset.mem_Ico.mp hd).1
  unfold arPay amAt
  rw [if_neg (by omega)]

/-- All landed rows. -/
theorem rcv_pieces (c : Dev nD) :
    iprop((bigSep (Finset.Ico 1 16) fun d => drPay m c d) ∗ owns (c : Thread nD τ) (rcvM c.val) fullShare (yfor m c c))
      = bigSep Finset.univ (fun s : Fin 16 => owns (c : Thread nD τ) (rcvAll.slice (rcvR s.val) (fun _ => rfl)) fullShare
          (fun j => rcvFull m c ((rcvR s.val).emb j))) := by
  have e : ∀ s : Fin 16, (fun j => rcvFull m c ((rcvR s.val).emb j)) = yfor m ⟨s.val, s.isLt⟩ c := fun s => funext fun j =>
    Rect.glue_emb (fun s : Fin 16 => rcvR s.val) rcv_cover rcv_disj (fun s => yfor m ⟨s.val, s.isLt⟩ c) s j
  simp only [e]
  have hcm : (peer c (16 - 0)) = c := Fin.ext (by have : c.val < 16 := c.isLt; simp only [peer_val]; omega)
  rw [show owns (c : Thread nD τ) (rcvM c.val) fullShare (yfor m c c) = drPay m c 0 by unfold drPay; rw [hcm], sep_swap,
    ← ico_head (show 0 < 16 by omega), ico_fin16]
  let e16 : Fin 16 ≃ Fin 16 := ⟨fun d => peer c (16 - d.val), fun s => peer c (16 - s.val),
    fun d => Fin.ext (by have : c.val < 16 := c.isLt; have := d.isLt; simp only [peer_val]; omega),
    fun d => Fin.ext (by have : c.val < 16 := c.isLt; have := d.isLt; simp only [peer_val]; omega)⟩
  exact (bigSep_univ_equiv e16 (Φ := fun s : Fin 16 => (owns (c : Thread nD τ) (rcvM s.val) fullShare (yfor m s c) : sProp 𝕄))).symm

theorem am_join (c : Dev nD) :
    iprop((bigSep (Finset.Ico 1 16) fun d => arPay m c d) ∗ owns (c : Thread nD τ) (am3 0) fullShare (amxOwn m c))
      ⊢ owns (c : Thread nD τ) amAll fullShare (amFull m c) := by
  rw [am_pieces]
  exact owns_of_rects (c : Thread nD τ) amAll fullShare (fun d : Fin 16 => amR d.val) (fun _ _ => rfl) am_disj am_cover (amFull m c)
theorem am_parts (c : Dev nD) :
    owns (c : Thread nD τ) amAll fullShare (amFull m c)
      ⊢ iprop((bigSep (Finset.Ico 1 16) fun d => arPay m c d) ∗ owns (c : Thread nD τ) (am3 0) fullShare (amxOwn m c)) := by
  rw [am_pieces]
  exact owns_rects (c : Thread nD τ) amAll fullShare (fun d : Fin 16 => amR d.val) (fun _ _ => rfl) am_disj am_cover (amFull m c)
theorem rcv_join (c : Dev nD) :
    iprop((bigSep (Finset.Ico 1 16) fun d => drPay m c d) ∗ owns (c : Thread nD τ) (rcvM c.val) fullShare (yfor m c c))
      ⊢ owns (c : Thread nD τ) rcvAll fullShare (rcvFull m c) := by
  rw [rcv_pieces]
  exact owns_of_rects (c : Thread nD τ) rcvAll fullShare (fun d : Fin 16 => rcvR d.val) (fun _ _ => rfl) rcv_disj rcv_cover (rcvFull m c)
theorem rcv_parts (c : Dev nD) :
    owns (c : Thread nD τ) rcvAll fullShare (rcvFull m c)
      ⊢ iprop((bigSep (Finset.Ico 1 16) fun d => drPay m c d) ∗ owns (c : Thread nD τ) (rcvM c.val) fullShare (yfor m c c)) := by
  rw [rcv_pieces]
  exact owns_rects (c : Thread nD τ) rcvAll fullShare (fun d : Fin 16 => rcvR d.val) (fun _ _ => rfl) rcv_disj rcv_cover (rcvFull m c)

/-- The load of all slabs of maxima. -/
theorem step_amload {α : Type} {K : α → sProp 𝕄} {inb : ∀ a, (![0, 0, 0] : Fin 3 → Nat) a + S16x8x128.size a ≤ S16x8x128.size a}
    {hl : amAll.view.LoadsAt (Rect.unit (s := S16x8x128) ![0, 0, 0] S16x8x128.size inb).toLoadRect}
    {k : (S16x8x128.Idx → Elt F .f32) → Prog (TpuEff nD τ sig (Elt F) Λ₀ .tc) α}
    (h : St m c a b s w y n g o₁ o₂ 1 15 q u v z ⊢ WP c (k (amFull m c)) K) :
    St m c a b s w y n g o₁ o₂ 1 15 q u v z
      ⊢ WP c (.op (.load amAll (Rect.unit (s := S16x8x128) ![0, 0, 0] S16x8x128.size inb).toLoadRect hl) k) K := by
  have rule := wp_load (defs := defs₀ (F := F)) 𝒱₀ (c : Thread nD τ) none Set.univ (Γ := []) (Ix := Unit) (Name := ℕ) (U := UU) (Lvl := ℕ) (Q := K)
      (m := amAll) (r := (Rect.unit (s := S16x8x128) ![0, 0, 0] S16x8x128.size inb).toLoadRect) (hl := hl) (k := k) (q := fullShare) (f := amFull m c)
      (S := Finset.univ) (Finset.subset_univ _)
  have er : amAll.view.readAt (Elt F) (Rect.unit (s := S16x8x128) ![0, 0, 0] S16x8x128.size inb).toLoadRect (amFull m c) = amFull m c :=
    Memref.readAt_unit_zero (Elt F) cc0_scratch4 zero3 _ _
  rw [er] at rule
  have ej := am_join m c
  have ep := am_parts m c
  rw [owns_whole_eq] at ej ep
  have key : cMaxR m c 1 15 ⊢ iprop((cMaxR m c 1 15 -∗ WP c (k (amFull m c)) K)
      -∗ WP c (.op (.load amAll (Rect.unit (s := S16x8x128) ![0, 0, 0] S16x8x128.size inb).toLoadRect hl) k) K) := by
    unfold cMaxR
    simp only [one_ne_zero, if_false]
    iintro ⟨Hs1, Hs2, Hs3, Hs4⟩ Hk
    ihave H := ej $$ [Hs2 Hs4]
    · isplitl [Hs2]; · iexact Hs2
      iexact Hs4
    icases H with ⟨%f, %hf, H⟩
    subst hf
    iapply rule $$ H
    iintro H
    ihave H := ep $$ [H]
    · iexists amFull m c; isplitr; · ipureintro; rfl
      iexact H
    icases H with ⟨Hs2, Hs4⟩
    iapply Hk
    isplitl [Hs1]; · iexact Hs1
    isplitl [Hs2]; · iexact Hs2
    isplitl [Hs3]; · iexact Hs3
    iexact Hs4
  unfold St at h ⊢
  iintro ⟨#He, Ho, Hsig, Hbar, Hland, Hcopy, Hprod, Hrecv, Hmax, Hmaxr, Hrest⟩
  iapply key $$ Hmaxr
  iintro Hmaxr
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  iexact Hrest

/-- The load of all landed rows. -/
theorem step_rcvload {α : Type} {K : α → sProp 𝕄} {inb : ∀ a, (![0, 0] : Fin 2 → Nat) a + S4096x128.size a ≤ S4096x128.size a}
    {hl : rcvAll.view.LoadsAt (Rect.unit (s := S4096x128) ![0, 0] S4096x128.size inb).toLoadRect}
    {k : (S4096x128.Idx → Elt F .bf16) → Prog (TpuEff nD τ sig (Elt F) Λ₀ .tc) α}
    (h : St m c a b s w y n g 1 o₂ o₃ p 15 u v z ⊢ WP c (k (rcvFull m c)) K) :
    St m c a b s w y n g 1 o₂ o₃ p 15 u v z
      ⊢ WP c (.op (.load rcvAll (Rect.unit (s := S4096x128) ![0, 0] S4096x128.size inb).toLoadRect hl) k) K := by
  have rule := wp_load (defs := defs₀ (F := F)) 𝒱₀ (c : Thread nD τ) none Set.univ (Γ := []) (Ix := Unit) (Name := ℕ) (U := UU) (Lvl := ℕ) (Q := K)
      (m := rcvAll) (r := (Rect.unit (s := S4096x128) ![0, 0] S4096x128.size inb).toLoadRect) (hl := hl) (k := k) (q := fullShare) (f := rcvFull m c)
      (S := Finset.univ) (Finset.subset_univ _)
  have er : rcvAll.view.readAt (Elt F) (Rect.unit (s := S4096x128) ![0, 0] S4096x128.size inb).toLoadRect (rcvFull m c) = rcvFull m c :=
    Memref.readAt_unit_zero (Elt F) cc0_scratch2 zero2 _ _
  rw [er] at rule
  have ej := rcv_join m c
  have ep := rcv_parts m c
  rw [owns_whole_eq] at ej ep
  have key : cRecv m c 1 15 ⊢ iprop((cRecv m c 1 15 -∗ WP c (k (rcvFull m c)) K)
      -∗ WP c (.op (.load rcvAll (Rect.unit (s := S4096x128) ![0, 0] S4096x128.size inb).toLoadRect hl) k) K) := by
    unfold cRecv
    simp only [one_ne_zero, if_false]
    iintro ⟨Hs1, Hs2, Hs3, Hs4⟩ Hk
    ihave H := ej $$ [Hs2 Hs4]
    · isplitl [Hs2]; · iexact Hs2
      iexact Hs4
    icases H with ⟨%f, %hf, H⟩
    subst hf
    iapply rule $$ H
    iintro H
    ihave H := ep $$ [H]
    · iexists rcvFull m c; isplitr; · ipureintro; rfl
      iexact H
    icases H with ⟨Hs2, Hs4⟩
    iapply Hk
    isplitl [Hs1]; · iexact Hs1
    isplitl [Hs2]; · iexact Hs2
    isplitl [Hs3]; · iexact Hs3
    iexact Hs4
  unfold St at h ⊢
  iintro ⟨#He, Ho, Hsig, Hbar, Hland, Hcopy, Hprod, Hrecv, Hrest⟩
  iapply key $$ Hrecv
  iintro Hrecv
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  iexact Hrest

/-- The load of the result's buffer before it is stored, -/
theorem step_outload {α : Type} {K : α → sProp 𝕄} {inb : ∀ a, (![0, 0] : Fin 2 → Nat) a + S4096x128.size a ≤ S4096x128.size a}
    {hl : oM.view.LoadsAt (Rect.unit (s := S4096x128) ![0, 0] S4096x128.size inb).toLoadRect}
    {k : (S4096x128.Idx → Elt F .f32) → Prog (TpuEff nD τ sig (Elt F) Λ₀ .tc) α}
    (h : ∀ X, St m c a b s w y n g o₁ o₂ o₃ p q u v 0 ⊢ WP c (k X) K) :
    St m c a b s w y n g o₁ o₂ o₃ p q u v 0
      ⊢ WP c (.op (.load oM (Rect.unit (s := S4096x128) ![0, 0] S4096x128.size inb).toLoadRect hl) k) K := by
  have rule (f : Buf (Elt F) (oM.view.loc (c : Thread nD τ))) := wp_load (defs := defs₀ (F := F)) 𝒱₀ (c : Thread nD τ) none Set.univ (Γ := []) (Ix := Unit) (Name := ℕ) (U := UU) (Lvl := ℕ) (Q := K)
      (m := oM) (r := (Rect.unit (s := S4096x128) ![0, 0] S4096x128.size inb).toLoadRect) (hl := hl) (k := k) (q := fullShare) (f := f)
      (S := Finset.univ) (Finset.subset_univ _)
  have key : cOut m c 0 ⊢ iprop((∀ X, cOut m c 0 -∗ WP c (k X) K)
      -∗ WP c (.op (.load oM (Rect.unit (s := S4096x128) ![0, 0] S4096x128.size inb).toLoadRect hl) k) K) := by
    unfold cOut
    simp only [if_true]
    iintro ⟨%f, Hf⟩ Hk
    iapply (rule f) $$ Hf
    iintro Hf
    iapply Hk
    iexists f; iexact Hf
  unfold St at h ⊢
  iintro ⟨#He, Ho, Hsig, Hbar, Hland, Hcopy, Hprod, Hrecv, Hmax, Hmaxr, Hidle, Hin, Hout⟩
  iapply key $$ Hout
  iintro %X Hout
  iapply (h X)
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  isplitl [Hidle]; · iexact Hidle
  isplitl [Hin]; · iexact Hin
  iexact Hout

/-- and the store. -/
theorem step_outstore {α : Type} {K : α → sProp 𝕄} {k : PUnit → Prog (TpuEff nD τ sig (Elt F) Λ₀ .tc) α} {inb : ∀ a, (![0, 0] : Fin 2 → Nat) a + S4096x128.size a ≤ S4096x128.size a}
    {X : S4096x128.Idx → Elt F .f32} {hx : (oM.access (Rect.unit (s := S4096x128) ![0, 0] S4096x128.size inb)).Stores Finset.univ}
    {hm : (Finset.univ : Finset S4096x128.Idx) = Finset.univ ∨ ∀ a, (Rect.unit (s := S4096x128) ![0, 0] S4096x128.size inb).stride a = 1}
    (eX : X = outv m c)
    (h : St m c a b s w y n g o₁ o₂ o₃ p q u v 1 ⊢ WP c (k ⟨⟩) K) :
    St m c a b s w y n g o₁ o₂ o₃ p q u v 0
      ⊢ WP c (.op (.store oM (Rect.unit (s := S4096x128) ![0, 0] S4096x128.size inb) X Finset.univ hx hm) k) K := by
  subst eX
  have rule (f : Buf (Elt F) (oM.view.loc (c : Thread nD τ))) := wp_store (defs := defs₀ (F := F)) 𝒱₀ (c : Thread nD τ) none Set.univ (Γ := []) (Ix := Unit) (Name := ℕ) (U := UU) (Lvl := ℕ) (Q := K)
      (m := oM) (r := Rect.unit (s := S4096x128) ![0, 0] S4096x128.size inb) (w := outv m c) (Mk := Finset.univ) (hx := hx) (hm := hm) (k := k) (f := f)
      (S := Finset.univ) (Finset.subset_univ _)
  have ew (f : Buf (Elt F) (oM.view.loc (c : Thread nD τ))) :
      (oM.access (Rect.unit (s := S4096x128) ![0, 0] S4096x128.size inb)).write (Elt F) f (outv m c) Finset.univ = outv m c :=
    Memref.write_access_unit_zero_univ (Elt F) cc0_stg1_0 zero2 _ _ _
  simp only [ew] at rule
  have key : cOut m c 0 ⊢ iprop((cOut m c 1 -∗ WP c (k ⟨⟩) K)
      -∗ WP c (.op (.store oM (Rect.unit (s := S4096x128) ![0, 0] S4096x128.size inb) (outv m c) Finset.univ hx hm) k) K) := by
    unfold cOut
    simp only [if_true, one_ne_zero, if_false]
    iintro ⟨%f, Hf⟩ Hk
    iapply (rule f) $$ Hf
    iintro Hf
    iapply Hk
    iexact Hf
  unfold St at h ⊢
  iintro ⟨#He, Ho, Hsig, Hbar, Hland, Hcopy, Hprod, Hrecv, Hmax, Hmaxr, Hidle, Hin, Hout⟩
  iapply key $$ Hout
  iintro Hout
  iapply h
  isplitr; · iexact He
  isplitl [Ho]; · iexact Ho
  isplitl [Hsig]; · iexact Hsig
  isplitl [Hbar]; · iexact Hbar
  isplitl [Hland]; · iexact Hland
  isplitl [Hcopy]; · iexact Hcopy
  isplitl [Hprod]; · iexact Hprod
  isplitl [Hrecv]; · iexact Hrecv
  isplitl [Hmax]; · iexact Hmax
  isplitl [Hmaxr]; · iexact Hmaxr
  isplitl [Hidle]; · iexact Hidle
  isplitl [Hin]; · iexact Hin
  iexact Hout

end Steps

end Cert.KernelIdealProof

end
-- ==== Proof.Ideal.Peers.lean ====
/-
# Devices and offsets in closed form

The kernel computes its peers and the offsets of its blocks by word arithmetic on the device's number. Over the sixteen devices
the closed forms are decided.
-/
module

public import proofs.«01_k».proof.Proof.Ideal.StepsOut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### Devices -/

/-- The device a signal goes to, for every distance. -/
theorem devs1 : ∀ c : Dev nD,
    k0_dev1 c = (c.val + 1) % 16 ∧ k0_dev2 c = (c.val + 2) % 16 ∧ k0_dev3 c = (c.val + 3) % 16 ∧ k0_dev4 c = (c.val + 4) % 16 ∧ k0_dev5 c = (c.val + 5) % 16 ∧ k0_dev6 c = (c.val + 6) % 16 ∧ k0_dev7 c = (c.val + 7) % 16 ∧ k0_dev8 c = (c.val + 8) % 16 ∧ k0_dev9 c = (c.val + 9) % 16 ∧ k0_dev10 c = (c.val + 10) % 16 ∧ k0_dev11 c = (c.val + 11) % 16 ∧ k0_dev12 c = (c.val + 12) % 16 ∧ k0_dev13 c = (c.val + 13) % 16 ∧ k0_dev14 c = (c.val + 14) % 16 ∧ k0_dev15 c = (c.val + 15) % 16 := by decide +kernel
/-- The device the copy of product blocks goes to, for every distance. -/
theorem devs16 : ∀ c : Dev nD,
    k0_dev16 c = (c.val + 1) % 16 ∧ k0_dev17 c = (c.val + 2) % 16 ∧ k0_dev18 c = (c.val + 3) % 16 ∧ k0_dev19 c = (c.val + 4) % 16 ∧ k0_dev20 c = (c.val + 5) % 16 ∧ k0_dev21 c = (c.val + 6) % 16 ∧ k0_dev22 c = (c.val + 7) % 16 ∧ k0_dev23 c = (c.val + 8) % 16 ∧ k0_dev24 c = (c.val + 9) % 16 ∧ k0_dev25 c = (c.val + 10) % 16 ∧ k0_dev26 c = (c.val + 11) % 16 ∧ k0_dev27 c = (c.val + 12) % 16 ∧ k0_dev28 c = (c.val + 13) % 16 ∧ k0_dev29 c = (c.val + 14) % 16 ∧ k0_dev30 c = (c.val + 15) % 16 := by decide +kernel
/-- The device the copy of maxima goes to, for every distance. -/
theorem devs31 : ∀ c : Dev nD,
    k0_dev31 c = (c.val + 1) % 16 ∧ k0_dev32 c = (c.val + 2) % 16 ∧ k0_dev33 c = (c.val + 3) % 16 ∧ k0_dev34 c = (c.val + 4) % 16 ∧ k0_dev35 c = (c.val + 5) % 16 ∧ k0_dev36 c = (c.val + 6) % 16 ∧ k0_dev37 c = (c.val + 7) % 16 ∧ k0_dev38 c = (c.val + 8) % 16 ∧ k0_dev39 c = (c.val + 9) % 16 ∧ k0_dev40 c = (c.val + 10) % 16 ∧ k0_dev41 c = (c.val + 11) % 16 ∧ k0_dev42 c = (c.val + 12) % 16 ∧ k0_dev43 c = (c.val + 13) % 16 ∧ k0_dev44 c = (c.val + 14) % 16 ∧ k0_dev45 c = (c.val + 15) % 16 := by decide +kernel

theorem to_peer {c : Dev nD} {j d : ℕ} {h : j < nD} (e : j = (c.val + d) % 16) : (⟨j, h⟩ : Dev nD) = peer c d :=
  Fin.ext (by rw [peer_val]; exact e)

/-! ### Offsets -/

theorem off1_eq : ∀ (t : Fin 15) (c : Dev nD), k0_off1 c (BitVec.ofNat 32 t.val) = ![0, ((c.val + t.val + 1) % 16) * 128] := by decide +kernel
theorem off2_eq : ∀ c : Dev nD, k0_off2 c = ![(c.val % 16) * 256, 0] := by decide +kernel
theorem off3_eq : ∀ c : Dev nD, k0_off3 c = ![0, ((c.val + 15 + 1) % 16) * 128] := by decide +kernel
theorem off4_eq : ∀ c : Dev nD, k0_off4 c = ![(c.val % 16) * 256, 0] := by decide +kernel

/-- A slice of `w` at the offset of column block `j`, -/
theorem wM_of {off : Fin 2 → Nat} {inb : ∀ a, off a + S4096x128.size a ≤ S4096x2048.size a} {hs : ∀ a, (Rect.unit (s := S4096x2048) off S4096x128.size inb).stride a = 1}
    {j : ℕ} (e : off = ![0, (j % 16) * 128]) : wAll.slice (Rect.unit (s := S4096x2048) off S4096x128.size inb) hs = wM j := by
  subst e; rfl
/-- and a slice of the landing rows at the offset of device `s`. -/
theorem rcvM_of {off : Fin 2 → Nat} {inb : ∀ a, off a + S256x128.size a ≤ S4096x128.size a} {hs : ∀ a, (Rect.unit (s := S4096x128) off S256x128.size inb).stride a = 1}
    {s : ℕ} (e : off = ![(s % 16) * 256, 0]) : rcvAll.slice (Rect.unit (s := S4096x128) off S256x128.size inb) hs = rcvM s := by
  subst e; rfl

end Cert.KernelIdealProof

end
-- ==== Proof.Ideal.Parts.lean ====
/-
# The parts up to the last product block

The printed kernel is a sequence of parts. Each lemma runs one: from the state at its start to the state at its end, one
operation at a time. Words that a part passes on are not looked at, only the values.
-/
module

public import proofs.«01_k».proof.Proof.Ideal.Peers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable {c : Dev nD} {h0 : xM.IsWhole} {h1 : wAll.IsWhole} {h2 : oM.IsWhole} {h3 : slots.IsWhole} {h4 : ysAll.IsWhole} {h5 : rcvAll.IsWhole}
  {h6 : amSrc.IsWhole} {h7 : amAll.IsWhole}

/-- A program that has ended. -/
theorem ret_intro {α : Type} {Q : α → sProp 𝕄} {P : sProp 𝕄} {x : α} (h : P ⊢ Q x) : P ⊢ WP c (.ret x) Q := by
  unfold WP
  rw [wp_ret]
  iintro H
  imodintro
  iapply h
  iexact H

/-- The amount of a copy into landing rows. -/
theorem rows_credit {off : Fin 2 → Nat} {inb : ∀ a, off a + S256x128.size a ≤ S4096x128.size a} {hs : ∀ a, (Rect.unit (s := S4096x128) off S256x128.size inb).stride a = 1}
    {s : ℕ} (e : off = ![(s % 16) * 256, 0]) : (rcvAll.slice (Rect.unit (s := S4096x128) off S256x128.size inb) hs).view.dmaCredit = Nd := by
  rw [rcvM_of e]; exact rcv_credit s

theorem part1 {Q : (Σ' (d0 : Dev nD) (v2 : BitVec 32) (v3 : Sems sig S_) (v24 : BitVec 32), BitVec 32) → sProp 𝕄}
    (h : ∀ r₀ r₁ r₂, St m c 5 0 0 0 0 0 0 0 0 0 0 0 0 0 0 ⊢ Q ⟨c, r₀, SemArray.scalar (sig.barrier 0 rfl), r₁, r₂⟩) :
    St m c 0 0 0 0 0 0 0 0 0 0 0 0 0 0 0
      ⊢ WP c (k0_part1 xM h0 wAll h1 oM h2 slots h3 ysAll h4 rcvAll h5 amSrc h6 amAll h7 cc0_scratch5 cc0_scratch6 cc0_scratch7 cc0_scratch8 cc0_scratch9) Q := by
  rw [k0_part1_eq_skeleton]
  unfold k0_part1_skel WP
  simp only [semSignalWord, semWaitWord, Prog.lift, Prog.bind_op, Prog.bind_ret, Prog.pure_eq_ret, wp_deviceId]
  refine step_signal m (by decide) (to_peer (devs1 c).1) rfl ?_
  refine step_signal m (by decide) (to_peer (devs1 c).2.1) rfl ?_
  refine step_signal m (by decide) (to_peer (devs1 c).2.2.1) rfl ?_
  refine step_signal m (by decide) (to_peer (devs1 c).2.2.2.1) rfl ?_
  refine step_signal m (by decide) (to_peer (devs1 c).2.2.2.2.1) rfl ?_
  exact ret_intro (h _ _ _)

theorem part2 {v2 : BitVec 32} {v24 : BitVec 32} {c16_i32_20 : BitVec 32} {Q : (Σ' (v48 : BitVec 32), BitVec 32) → sProp 𝕄}
    (h : ∀ r₀ r₁, St m c 11 0 0 0 0 0 0 0 0 0 0 0 0 0 0 ⊢ Q ⟨r₀, r₁⟩) :
    St m c 5 0 0 0 0 0 0 0 0 0 0 0 0 0 0
      ⊢ WP c (k0_part2 xM h0 wAll h1 oM h2 slots h3 ysAll h4 rcvAll h5 amSrc h6 amAll h7 cc0_scratch5 cc0_scratch6 cc0_scratch7 cc0_scratch8 cc0_scratch9 c v2 (SemArray.scalar (sig.barrier 0 rfl)) v24 c16_i32_20) Q := by
  rw [k0_part2_eq_skeleton]
  unfold k0_part2_skel WP
  simp only [semSignalWord, semWaitWord, Prog.lift, Prog.bind_op, Prog.bind_ret, Prog.pure_eq_ret, wp_deviceId]
  refine step_signal m (by decide) (to_peer (devs1 c).2.2.2.2.2.1) rfl ?_
  refine step_signal m (by decide) (to_peer (devs1 c).2.2.2.2.2.2.1) rfl ?_
  refine step_signal m (by decide) (to_peer (devs1 c).2.2.2.2.2.2.2.1) rfl ?_
  refine step_signal m (by decide) (to_peer (devs1 c).2.2.2.2.2.2.2.2.1) rfl ?_
  refine step_signal m (by decide) (to_peer (devs1 c).2.2.2.2.2.2.2.2.2.1) rfl ?_
  refine step_signal m (by decide) (to_peer (devs1 c).2.2.2.2.2.2.2.2.2.2.1) rfl ?_
  exact ret_intro (h _ _)

theorem part3 {v2 : BitVec 32} {v48 : BitVec 32} {c16_i32_44 : BitVec 32} {Q : (BitVec 32) → sProp 𝕄}
    (h : ∀ r₀, St m c 15 1 1 0 0 0 0 0 0 0 0 0 0 0 0 ⊢ Q r₀) :
    St m c 11 0 0 0 0 0 0 0 0 0 0 0 0 0 0
      ⊢ WP c (k0_part3 xM h0 wAll h1 oM h2 slots h3 ysAll h4 rcvAll h5 amSrc h6 amAll h7 cc0_scratch5 cc0_scratch6 cc0_scratch7 cc0_scratch8 cc0_scratch9 c v2 (SemArray.scalar (sig.barrier 0 rfl)) v48 c16_i32_44) Q := by
  rw [k0_part3_eq_skeleton]
  unfold k0_part3_skel WP
  simp only [semSignalWord, semWaitWord, Prog.lift, Prog.bind_op, Prog.bind_ret, Prog.pure_eq_ret, wp_deviceId]
  refine step_signal m (by decide) (to_peer (devs1 c).2.2.2.2.2.2.2.2.2.2.2.1) rfl ?_
  refine step_signal m (by decide) (to_peer (devs1 c).2.2.2.2.2.2.2.2.2.2.2.2.1) rfl ?_
  refine step_signal m (by decide) (to_peer (devs1 c).2.2.2.2.2.2.2.2.2.2.2.2.2.1) rfl ?_
  refine step_signal m (by decide) (to_peer (devs1 c).2.2.2.2.2.2.2.2.2.2.2.2.2.2) rfl ?_
  refine step_barrier m rfl ?_
  refine step_wstart m (by decide) (by decide) (by decide) (wM_of (off1_eq 0 c)) rfl rfl ?_
  exact ret_intro (h _)

theorem part4 {v2 : BitVec 32} {c1_i32_69 : BitVec 32} {Q : (BitVec 32) → sProp 𝕄}
    (h : ∀ r₀, St m c 15 1 4 0 0 0 0 0 0 0 0 0 0 0 0 ⊢ Q r₀) :
    St m c 15 1 1 0 0 0 0 0 0 0 0 0 0 0 0
      ⊢ WP c (k0_part4 xM h0 wAll h1 oM h2 slots h3 ysAll h4 rcvAll h5 amSrc h6 amAll h7 cc0_scratch5 cc0_scratch6 cc0_scratch7 cc0_scratch8 cc0_scratch9 c v2 c1_i32_69) Q := by
  rw [k0_part4_eq_skeleton]
  unfold k0_part4_skel WP
  simp only [semSignalWord, semWaitWord, Prog.lift, Prog.bind_op, Prog.bind_ret, Prog.pure_eq_ret, wp_deviceId]
  refine step_wstart m (by decide) (by decide) (by decide) (wM_of (off1_eq 1 c)) rfl rfl ?_
  refine step_wstart m (by decide) (by decide) (by decide) (wM_of (off1_eq 2 c)) rfl rfl ?_
  refine step_wstart m (by decide) (by decide) (by decide) (wM_of (off1_eq 3 c)) rfl rfl ?_
  exact ret_intro (h _)

theorem part5 {v2 : BitVec 32} {v101 : BitVec 32} {Q : (Σ' (v129 : FVec F S256x4096 .bf16), BitVec 32) → sProp 𝕄}
    (h : ∀ r₀, St m c 15 1 7 0 0 0 0 0 0 0 0 0 0 0 0 ⊢ Q ⟨xb m c, r₀⟩) :
    St m c 15 1 4 0 0 0 0 0 0 0 0 0 0 0 0
      ⊢ WP c (k0_part5 xM h0 wAll h1 oM h2 slots h3 ysAll h4 rcvAll h5 amSrc h6 amAll h7 cc0_scratch5 cc0_scratch6 cc0_scratch7 cc0_scratch8 cc0_scratch9 c v2 v101) Q := by
  rw [k0_part5_eq_skeleton]
  unfold k0_part5_skel WP
  simp only [semSignalWord, semWaitWord, Prog.lift, Prog.bind_op, Prog.bind_ret, Prog.pure_eq_ret, wp_deviceId]
  refine step_wstart m (by decide) (by decide) (by decide) (wM_of (off1_eq 4 c)) rfl rfl ?_
  refine step_wstart m (by decide) (by decide) (by decide) (wM_of (off1_eq 5 c)) rfl rfl ?_
  refine step_wstart m (by decide) (by decide) (by decide) (wM_of (off1_eq 6 c)) rfl rfl ?_
  refine step_xload m ?_
  exact ret_intro (h _)

theorem part6 {v2 : BitVec 32} {v130 : BitVec 32} {Q : (Σ' (v132 : BitVec 32) (v154 : FVec F S1x128 .f32), BitVec 32) → sProp 𝕄}
    (h : ∀ r₀ r₁, St m c 15 1 8 1 1 0 0 0 0 0 0 0 0 0 0 ⊢ Q ⟨r₀, vmx m c 0, r₁⟩) :
    St m c 15 1 7 0 0 0 0 0 0 0 0 0 0 0 0
      ⊢ WP c (k0_part6 xM h0 wAll h1 oM h2 slots h3 ysAll h4 rcvAll h5 amSrc h6 amAll h7 cc0_scratch5 cc0_scratch6 cc0_scratch7 cc0_scratch8 cc0_scratch9 c v2 (xb m c) v130) Q := by
  rw [k0_part6_eq_skeleton]
  unfold k0_part6_skel WP
  simp only [semSignalWord, semWaitWord, Prog.lift, Prog.bind_op, Prog.bind_ret, Prog.pure_eq_ret, wp_deviceId]
  refine step_wstart m (by decide) (by decide) (by decide) (wM_of (off1_eq 7 c)) rfl rfl ?_
  refine step_wwait m (by decide) (by decide) (by decide) rfl (slot_credit 0) ?_
  refine step_slotload m (t := 0) (by decide) ?_
  refine step_yload m (by decide) fun _ => ?_
  refine step_ystore m (by decide) (by decide) rfl ?_
  exact ret_intro (h _ _)

theorem part7 {v2 : BitVec 32} {v132 : BitVec 32} {c1_i32_150 : BitVec 32} {Q : (Σ' (v170 : BitVec 32) (v189 : FVec F S256x128 .f32), FVec F S256x128 .f32) → sProp 𝕄}
    (h : ∀ r₀, St m c 15 1 9 2 1 1 0 0 0 0 0 0 0 0 0 ⊢ Q ⟨r₀, k0_pay5 (xb m c) (wld m c 1), k0_pay6 (xb m c) (wld m c 1)⟩) :
    St m c 15 1 8 1 1 0 0 0 0 0 0 0 0 0 0
      ⊢ WP c (k0_part7 xM h0 wAll h1 oM h2 slots h3 ysAll h4 rcvAll h5 amSrc h6 amAll h7 cc0_scratch5 cc0_scratch6 cc0_scratch7 cc0_scratch8 cc0_scratch9 c v2 (xb m c) v132 c1_i32_150) Q := by
  rw [k0_part7_eq_skeleton]
  unfold k0_part7_skel WP
  simp only [semSignalWord, semWaitWord, Prog.lift, Prog.bind_op, Prog.bind_ret, Prog.pure_eq_ret, wp_deviceId]
  refine step_send m (by decide) (by decide) (by decide) (to_peer (devs16 c).1) rfl (rcvM_of (off2_eq c)) rfl rfl ?_
  refine step_wstart m (by decide) (by decide) (by decide) (wM_of (off1_eq 8 c)) rfl rfl ?_
  refine step_wwait m (by decide) (by decide) (by decide) rfl (slot_credit 1) ?_
  refine step_slotload m (t := 1) (by decide) ?_
  exact ret_intro (h _)

theorem part8 {v2 : BitVec 32} {v170 : BitVec 32} {Q : (Σ' (v193 : FVec F S1x128 .f32), BitVec 32) → sProp 𝕄}
    (h : ∀ r₀, St m c 15 1 10 2 2 2 0 0 0 0 0 0 0 0 0 ⊢ Q ⟨vmx m c 1, r₀⟩) :
    St m c 15 1 9 2 1 1 0 0 0 0 0 0 0 0 0
      ⊢ WP c (k0_part8 xM h0 wAll h1 oM h2 slots h3 ysAll h4 rcvAll h5 amSrc h6 amAll h7 cc0_scratch5 cc0_scratch6 cc0_scratch7 cc0_scratch8 cc0_scratch9 c v2 (vmx m c 0) v170 (k0_pay5 (xb m c) (wld m c 1)) (k0_pay6 (xb m c) (wld m c 1))) Q := by
  rw [k0_part8_eq_skeleton]
  unfold k0_part8_skel WP
  simp only [semSignalWord, semWaitWord, Prog.lift, Prog.bind_op, Prog.bind_ret, Prog.pure_eq_ret, wp_deviceId]
  refine step_yload m (by decide) fun _ => ?_
  refine step_ystore m (by decide) (by decide) rfl ?_
  refine step_send m (by decide) (by decide) (by decide) (to_peer (devs16 c).2.1) rfl (rcvM_of (off2_eq c)) rfl rfl ?_
  refine step_wstart m (by decide) (by decide) (by decide) (wM_of (off1_eq 9 c)) rfl rfl ?_
  exact ret_intro (h _)

theorem part9 {v2 : BitVec 32} {v209 : BitVec 32} {Q : (Σ' (v232 : FVec F S1x128 .f32) (v248 : BitVec 32) (v252 : BitVec 32), BitVec 32) → sProp 𝕄}
    (h : ∀ r₀ r₁ r₂, St m c 15 1 10 3 3 3 0 0 0 0 0 0 0 0 0 ⊢ Q ⟨vmx m c 2, r₀, r₁, r₂⟩) :
    St m c 15 1 10 2 2 2 0 0 0 0 0 0 0 0 0
      ⊢ WP c (k0_part9 xM h0 wAll h1 oM h2 slots h3 ysAll h4 rcvAll h5 amSrc h6 amAll h7 cc0_scratch5 cc0_scratch6 cc0_scratch7 cc0_scratch8 cc0_scratch9 c v2 (xb m c) (vmx m c 1) v209) Q := by
  rw [k0_part9_eq_skeleton]
  unfold k0_part9_skel WP
  simp only [semSignalWord, semWaitWord, Prog.lift, Prog.bind_op, Prog.bind_ret, Prog.pure_eq_ret, wp_deviceId]
  refine step_wwait m (by decide) (by decide) (by decide) rfl (slot_credit 2) ?_
  refine step_slotload m (t := 2) (by decide) ?_
  refine step_yload m (by decide) fun _ => ?_
  refine step_ystore m (by decide) (by decide) rfl ?_
  refine step_send m (by decide) (by decide) (by decide) (to_peer (devs16 c).2.2.1) rfl (rcvM_of (off2_eq c)) rfl rfl ?_
  exact ret_intro (h _ _ _)

theorem part10 {v2 : BitVec 32} {v248 : BitVec 32} {v252 : BitVec 32} {c128_i32_224 : BitVec 32} {Q : (FVec F S1x128 .f32) → sProp 𝕄}
    (h : St m c 15 1 11 4 4 3 0 0 0 0 0 0 0 0 0 ⊢ Q (vmx m c 3)) :
    St m c 15 1 10 3 3 3 0 0 0 0 0 0 0 0 0
      ⊢ WP c (k0_part10 xM h0 wAll h1 oM h2 slots h3 ysAll h4 rcvAll h5 amSrc h6 amAll h7 cc0_scratch5 cc0_scratch6 cc0_scratch7 cc0_scratch8 cc0_scratch9 c v2 (xb m c) (vmx m c 2) v248 v252 c128_i32_224) Q := by
  rw [k0_part10_eq_skeleton]
  unfold k0_part10_skel WP
  simp only [semSignalWord, semWaitWord, Prog.lift, Prog.bind_op, Prog.bind_ret, Prog.pure_eq_ret, wp_deviceId]
  refine step_wstart m (by decide) (by decide) (by decide) (wM_of (off1_eq 10 c)) rfl rfl ?_
  refine step_wwait m (by decide) (by decide) (by decide) rfl (slot_credit 3) ?_
  refine step_slotload m (t := 3) (by decide) ?_
  refine step_yload m (by decide) fun _ => ?_
  refine step_ystore m (by decide) (by decide) rfl ?_
  exact ret_intro (h)

theorem part11 {v2 : BitVec 32} {Q : (Σ' (v287 : BitVec 32) (v310 : FVec F S1x128 .f32), BitVec 32) → sProp 𝕄}
    (h : ∀ r₀ r₁, St m c 15 1 12 5 5 4 0 0 0 0 0 0 0 0 0 ⊢ Q ⟨r₀, vmx m c 4, r₁⟩) :
    St m c 15 1 11 4 4 3 0 0 0 0 0 0 0 0 0
      ⊢ WP c (k0_part11 xM h0 wAll h1 oM h2 slots h3 ysAll h4 rcvAll h5 amSrc h6 amAll h7 cc0_scratch5 cc0_scratch6 cc0_scratch7 cc0_scratch8 cc0_scratch9 c v2 (xb m c) (vmx m c 3)) Q := by
  rw [k0_part11_eq_skeleton]
  unfold k0_part11_skel WP
  simp only [semSignalWord, semWaitWord, Prog.lift, Prog.bind_op, Prog.bind_ret, Prog.pure_eq_ret, wp_deviceId]
  refine step_send m (by decide) (by decide) (by decide) (to_peer (devs16 c).2.2.2.1) rfl (rcvM_of (off2_eq c)) rfl rfl ?_
  refine step_wstart m (by decide) (by decide) (by decide) (wM_of (off1_eq 11 c)) rfl rfl ?_
  refine step_wwait m (by decide) (by decide) (by decide) rfl (slot_credit 4) ?_
  refine step_slotload m (t := 4) (by decide) ?_
  refine step_yload m (by decide) fun _ => ?_
  refine step_ystore m (by decide) (by decide) rfl ?_
  exact ret_intro (h _ _)

theorem part12 {v2 : BitVec 32} {v287 : BitVec 32} {c256_i32_270 : BitVec 32} {Q : (Σ' (v326 : BitVec 32), FVec F S4096x128 .f32) → sProp 𝕄}
    (h : ∀ r₀, St m c 15 1 13 6 5 5 0 0 0 0 0 0 0 0 0 ⊢ Q ⟨r₀, k0_pay18 (wld m c 5)⟩) :
    St m c 15 1 12 5 5 4 0 0 0 0 0 0 0 0 0
      ⊢ WP c (k0_part12 xM h0 wAll h1 oM h2 slots h3 ysAll h4 rcvAll h5 amSrc h6 amAll h7 cc0_scratch5 cc0_scratch6 cc0_scratch7 cc0_scratch8 cc0_scratch9 c v2 v287 c256_i32_270) Q := by
  rw [k0_part12_eq_skeleton]
  unfold k0_part12_skel WP
  simp only [semSignalWord, semWaitWord, Prog.lift, Prog.bind_op, Prog.bind_ret, Prog.pure_eq_ret, wp_deviceId]
  refine step_send m (by decide) (by decide) (by decide) (to_peer (devs16 c).2.2.2.2.1) rfl (rcvM_of (off2_eq c)) rfl rfl ?_
  refine step_wstart m (by decide) (by decide) (by decide) (wM_of (off1_eq 12 c)) rfl rfl ?_
  refine step_wwait m (by decide) (by decide) (by decide) rfl (slot_credit 5) ?_
  refine step_slotload m (t := 5) (by decide) ?_
  exact ret_intro (h _)

theorem part13 {v2 : BitVec 32} {v326 : BitVec 32} {Q : (Σ' (v349 : FVec F S1x128 .f32), BitVec 32) → sProp 𝕄}
    (h : ∀ r₀, St m c 15 1 14 6 6 6 0 0 0 0 0 0 0 0 0 ⊢ Q ⟨vmx m c 5, r₀⟩) :
    St m c 15 1 13 6 5 5 0 0 0 0 0 0 0 0 0
      ⊢ WP c (k0_part13 xM h0 wAll h1 oM h2 slots h3 ysAll h4 rcvAll h5 amSrc h6 amAll h7 cc0_scratch5 cc0_scratch6 cc0_scratch7 cc0_scratch8 cc0_scratch9 c v2 (xb m c) (vmx m c 4) v326 (k0_pay18 (wld m c 5))) Q := by
  rw [k0_part13_eq_skeleton]
  unfold k0_part13_skel WP
  simp only [semSignalWord, semWaitWord, Prog.lift, Prog.bind_op, Prog.bind_ret, Prog.pure_eq_ret, wp_deviceId]
  refine step_yload m (by decide) fun _ => ?_
  refine step_ystore m (by decide) (by decide) rfl ?_
  refine step_send m (by decide) (by decide) (by decide) (to_peer (devs16 c).2.2.2.2.2.1) rfl (rcvM_of (off2_eq c)) rfl rfl ?_
  refine step_wstart m (by decide) (by decide) (by decide) (wM_of (off1_eq 13 c)) rfl rfl ?_
  exact ret_intro (h _)

theorem part14 {v2 : BitVec 32} {v365 : BitVec 32} {Q : (Σ' (v388 : FVec F S1x128 .f32) (v404 : BitVec 32) (v406 : BitVec 32), BitVec 32) → sProp 𝕄}
    (h : ∀ r₀ r₁ r₂, St m c 15 1 14 7 7 7 0 0 0 0 0 0 0 0 0 ⊢ Q ⟨vmx m c 6, r₀, r₁, r₂⟩) :
    St m c 15 1 14 6 6 6 0 0 0 0 0 0 0 0 0
      ⊢ WP c (k0_part14 xM h0 wAll h1 oM h2 slots h3 ysAll h4 rcvAll h5 amSrc h6 amAll h7 cc0_scratch5 cc0_scratch6 cc0_scratch7 cc0_scratch8 cc0_scratch9 c v2 (xb m c) (vmx m c 5) v365) Q := by
  rw [k0_part14_eq_skeleton]
  unfold k0_part14_skel WP
  simp only [semSignalWord, semWaitWord, Prog.lift, Prog.bind_op, Prog.bind_ret, Prog.pure_eq_ret, wp_deviceId]
  refine step_wwait m (by decide) (by decide) (by decide) rfl (slot_credit 6) ?_
  refine step_slotload m (t := 6) (by decide) ?_
  refine step_yload m (by decide) fun _ => ?_
  refine step_ystore m (by decide) (by decide) rfl ?_
  refine step_send m (by decide) (by decide) (by decide) (to_peer (devs16 c).2.2.2.2.2.2.1) rfl (rcvM_of (off2_eq c)) rfl rfl ?_
  exact ret_intro (h _ _ _)

theorem part15 {v2 : BitVec 32} {v404 : BitVec 32} {v406 : BitVec 32} {c1_i32_342 : BitVec 32} {Q : (FVec F S1x128 .f32) → sProp 𝕄}
    (h : St m c 15 1 15 8 8 7 0 0 0 0 0 0 0 0 0 ⊢ Q (vmx m c 7)) :
    St m c 15 1 14 7 7 7 0 0 0 0 0 0 0 0 0
      ⊢ WP c (k0_part15 xM h0 wAll h1 oM h2 slots h3 ysAll h4 rcvAll h5 amSrc h6 amAll h7 cc0_scratch5 cc0_scratch6 cc0_scratch7 cc0_scratch8 cc0_scratch9 c v2 (xb m c) (vmx m c 6) v404 v406 c1_i32_342) Q := by
  rw [k0_part15_eq_skeleton]
  unfold k0_part15_skel WP
  simp only [semSignalWord, semWaitWord, Prog.lift, Prog.bind_op, Prog.bind_ret, Prog.pure_eq_ret, wp_deviceId]
  refine step_wstart m (by decide) (by decide) (by decide) (wM_of (off1_eq 14 c)) rfl rfl ?_
  refine step_wwait m (by decide) (by decide) (by decide) rfl (slot_credit 7) ?_
  refine step_slotload m (t := 7) (by decide) ?_
  refine step_yload m (by decide) fun _ => ?_
  refine step_ystore m (by decide) (by decide) rfl ?_
  exact ret_intro (h)

theorem part16 {v2 : BitVec 32} {Q : (Σ' (v443 : BitVec 32), FVec F S1x128 .f32) → sProp 𝕄}
    (h : ∀ r₀, St m c 15 1 16 9 9 8 0 0 0 0 0 0 0 0 0 ⊢ Q ⟨r₀, vmx m c 8⟩) :
    St m c 15 1 15 8 8 7 0 0 0 0 0 0 0 0 0
      ⊢ WP c (k0_part16 xM h0 wAll h1 oM h2 slots h3 ysAll h4 rcvAll h5 amSrc h6 amAll h7 cc0_scratch5 cc0_scratch6 cc0_scratch7 cc0_scratch8 cc0_scratch9 c v2 (xb m c) (vmx m c 7)) Q := by
  rw [k0_part16_eq_skeleton]
  unfold k0_part16_skel WP
  simp only [semSignalWord, semWaitWord, Prog.lift, Prog.bind_op, Prog.bind_ret, Prog.pure_eq_ret, wp_deviceId]
  refine step_send m (by decide) (by decide) (by decide) (to_peer (devs16 c).2.2.2.2.2.2.2.1) rfl (rcvM_of (off2_eq c)) rfl rfl ?_
  refine step_wstart m (by decide) (by decide) (by decide) (wM_of (off3_eq c)) rfl rfl ?_
  refine step_wwait m (by decide) (by decide) (by decide) rfl (slot_credit 8) ?_
  refine step_slotload m (t := 8) (by decide) ?_
  refine step_yload m (by decide) fun _ => ?_
  refine step_ystore m (by decide) (by decide) rfl ?_
  exact ret_intro (h _)

theorem part17 {v2 : BitVec 32} {v443 : BitVec 32} {Q : (Σ' (v479 : BitVec 32) (v493 : FVec F S1x128 .f32), BitVec 32) → sProp 𝕄}
    (h : ∀ r₀ r₁, St m c 15 1 16 10 10 9 0 0 0 0 0 0 0 0 0 ⊢ Q ⟨r₀, vmx m c 9, r₁⟩) :
    St m c 15 1 16 9 9 8 0 0 0 0 0 0 0 0 0
      ⊢ WP c (k0_part17 xM h0 wAll h1 oM h2 slots h3 ysAll h4 rcvAll h5 amSrc h6 amAll h7 cc0_scratch5 cc0_scratch6 cc0_scratch7 cc0_scratch8 cc0_scratch9 c v2 (xb m c) v443 (vmx m c 8)) Q := by
  rw [k0_part17_eq_skeleton]
  unfold k0_part17_skel WP
  simp only [semSignalWord, semWaitWord, Prog.lift, Prog.bind_op, Prog.bind_ret, Prog.pure_eq_ret, wp_deviceId]
  refine step_send m (by decide) (by decide) (by decide) (to_peer (devs16 c).2.2.2.2.2.2.2.2.1) rfl (rcvM_of (off2_eq c)) rfl rfl ?_
  refine step_wwait m (by decide) (by decide) (by decide) rfl (slot_credit 9) ?_
  refine step_slotload m (t := 9) (by decide) ?_
  refine step_yload m (by decide) fun _ => ?_
  refine step_ystore m (by decide) (by decide) rfl ?_
  exact ret_intro (h _ _)

theorem part18 {v2 : BitVec 32} {v499 : BitVec 32} {Q : (Σ' (v509 : BitVec 32), FVec F S1x128 .f32) → sProp 𝕄}
    (h : ∀ r₀, St m c 15 1 16 11 11 10 0 0 0 0 0 0 0 0 0 ⊢ Q ⟨r₀, vmx m c 10⟩) :
    St m c 15 1 16 10 10 9 0 0 0 0 0 0 0 0 0
      ⊢ WP c (k0_part18 xM h0 wAll h1 oM h2 slots h3 ysAll h4 rcvAll h5 amSrc h6 amAll h7 cc0_scratch5 cc0_scratch6 cc0_scratch7 cc0_scratch8 cc0_scratch9 c v2 (xb m c) (vmx m c 9) v499) Q := by
  rw [k0_part18_eq_skeleton]
  unfold k0_part18_skel WP
  simp only [semSignalWord, semWaitWord, Prog.lift, Prog.bind_op, Prog.bind_ret, Prog.pure_eq_ret, wp_deviceId]
  refine step_send m (by decide) (by decide) (by decide) (to_peer (devs16 c).2.2.2.2.2.2.2.2.2.1) rfl (rcvM_of (off2_eq c)) rfl rfl ?_
  refine step_wwait m (by decide) (by decide) (by decide) rfl (slot_credit 10) ?_
  refine step_slotload m (t := 10) (by decide) ?_
  refine step_yload m (by decide) fun _ => ?_
  refine step_ystore m (by decide) (by decide) rfl ?_
  exact ret_intro (h _)

theorem part19 {v2 : BitVec 32} {Q : (Σ' (v539 : BitVec 32), FVec F S1x128 .f32) → sProp 𝕄}
    (h : ∀ r₀, St m c 15 1 16 12 12 11 0 0 0 0 0 0 0 0 0 ⊢ Q ⟨r₀, vmx m c 11⟩) :
    St m c 15 1 16 11 11 10 0 0 0 0 0 0 0 0 0
      ⊢ WP c (k0_part19 xM h0 wAll h1 oM h2 slots h3 ysAll h4 rcvAll h5 amSrc h6 amAll h7 cc0_scratch5 cc0_scratch6 cc0_scratch7 cc0_scratch8 cc0_scratch9 c v2 (xb m c) (vmx m c 10)) Q := by
  rw [k0_part19_eq_skeleton]
  unfold k0_part19_skel WP
  simp only [semSignalWord, semWaitWord, Prog.lift, Prog.bind_op, Prog.bind_ret, Prog.pure_eq_ret, wp_deviceId]
  refine step_send m (by decide) (by decide) (by decide) (to_peer (devs16 c).2.2.2.2.2.2.2.2.2.2.1) rfl (rcvM_of (off2_eq c)) rfl rfl ?_
  refine step_wwait m (by decide) (by decide) (by decide) rfl (slot_credit 11) ?_
  refine step_slotload m (t := 11) (by decide) ?_
  refine step_yload m (by decide) fun _ => ?_
  refine step_ystore m (by decide) (by decide) rfl ?_
  exact ret_intro (h _)

theorem part20 {v2 : BitVec 32} {Q : (Σ' (v569 : BitVec 32), FVec F S1x128 .f32) → sProp 𝕄}
    (h : ∀ r₀, St m c 15 1 16 13 13 12 0 0 0 0 0 0 0 0 0 ⊢ Q ⟨r₀, vmx m c 12⟩) :
    St m c 15 1 16 12 12 11 0 0 0 0 0 0 0 0 0
      ⊢ WP c (k0_part20 xM h0 wAll h1 oM h2 slots h3 ysAll h4 rcvAll h5 amSrc h6 amAll h7 cc0_scratch5 cc0_scratch6 cc0_scratch7 cc0_scratch8 cc0_scratch9 c v2 (xb m c) (vmx m c 11)) Q := by
  rw [k0_part20_eq_skeleton]
  unfold k0_part20_skel WP
  simp only [semSignalWord, semWaitWord, Prog.lift, Prog.bind_op, Prog.bind_ret, Prog.pure_eq_ret, wp_deviceId]
  refine step_send m (by decide) (by decide) (by decide) (to_peer (devs16 c).2.2.2.2.2.2.2.2.2.2.2.1) rfl (rcvM_of (off2_eq c)) rfl rfl ?_
  refine step_wwait m (by decide) (by decide) (by decide) rfl (slot_credit 12) ?_
  refine step_slotload m (t := 12) (by decide) ?_
  refine step_yload m (by decide) fun _ => ?_
  refine step_ystore m (by decide) (by decide) rfl ?_
  exact ret_intro (h _)

theorem part21 {v2 : BitVec 32} {Q : (Σ' (v599 : BitVec 32), FVec F S1x128 .f32) → sProp 𝕄}
    (h : ∀ r₀, St m c 15 1 16 14 14 14 0 0 0 0 0 0 0 0 0 ⊢ Q ⟨r₀, vmx m c 13⟩) :
    St m c 15 1 16 13 13 12 0 0 0 0 0 0 0 0 0
      ⊢ WP c (k0_part21 xM h0 wAll h1 oM h2 slots h3 ysAll h4 rcvAll h5 amSrc h6 amAll h7 cc0_scratch5 cc0_scratch6 cc0_scratch7 cc0_scratch8 cc0_scratch9 c v2 (xb m c) (vmx m c 12)) Q := by
  rw [k0_part21_eq_skeleton]
  unfold k0_part21_skel WP
  simp only [semSignalWord, semWaitWord, Prog.lift, Prog.bind_op, Prog.bind_ret, Prog.pure_eq_ret, wp_deviceId]
  refine step_send m (by decide) (by decide) (by decide) (to_peer (devs16 c).2.2.2.2.2.2.2.2.2.2.2.2.1) rfl (rcvM_of (off2_eq c)) rfl rfl ?_
  refine step_wwait m (by decide) (by decide) (by decide) rfl (slot_credit 13) ?_
  refine step_slotload m (t := 13) (by decide) ?_
  refine step_yload m (by decide) fun _ => ?_
  refine step_ystore m (by decide) (by decide) rfl ?_
  refine step_send m (by decide) (by decide) (by decide) (to_peer (devs16 c).2.2.2.2.2.2.2.2.2.2.2.2.2.1) rfl (rcvM_of (off2_eq c)) rfl rfl ?_
  exact ret_intro (h _)

theorem part22 {v2 : BitVec 32} {Q : (Σ' (v629 : BitVec 32), FVec F S1x128 .f32) → sProp 𝕄}
    (h : ∀ r₀, St m c 15 1 16 15 15 15 0 0 0 0 0 0 0 0 0 ⊢ Q ⟨r₀, vmx m c 14⟩) :
    St m c 15 1 16 14 14 14 0 0 0 0 0 0 0 0 0
      ⊢ WP c (k0_part22 xM h0 wAll h1 oM h2 slots h3 ysAll h4 rcvAll h5 amSrc h6 amAll h7 cc0_scratch5 cc0_scratch6 cc0_scratch7 cc0_scratch8 cc0_scratch9 c v2 (xb m c) (vmx m c 13)) Q := by
  rw [k0_part22_eq_skeleton]
  unfold k0_part22_skel WP
  simp only [semSignalWord, semWaitWord, Prog.lift, Prog.bind_op, Prog.bind_ret, Prog.pure_eq_ret, wp_deviceId]
  refine step_wwait m (by decide) (by decide) (by decide) rfl (slot_credit 14) ?_
  refine step_slotload m (t := 14) (by decide) ?_
  refine step_yload m (by decide) fun _ => ?_
  refine step_ystore m (by decide) (by decide) rfl ?_
  refine step_send m (by decide) (by decide) (by decide) (to_peer (devs16 c).2.2.2.2.2.2.2.2.2.2.2.2.2.2) rfl (rcvM_of (off2_eq c)) rfl rfl ?_
  exact ret_intro (h _)

end Parts

end Cert.KernelIdealProof

end
-- ==== Proof.Ideal.PartsEnd.lean ====
/-
# The parts from the last product block on

The device's own rows and maxima, the copies of the maxima, the waits and the result.
-/
module

public import proofs.«01_k».proof.Proof.Ideal.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable {c : Dev nD} {h0 : xM.IsWhole} {h1 : wAll.IsWhole} {h2 : oM.IsWhole} {h3 : slots.IsWhole} {h4 : ysAll.IsWhole} {h5 : rcvAll.IsWhole}
  {h6 : amSrc.IsWhole} {h7 : amAll.IsWhole}

theorem part23 {v2 : BitVec 32} {Q : (BitVec 32) → sProp 𝕄}
    (h : ∀ r₀, St m c 15 1 16 16 15 15 0 1 1 1 0 0 0 0 0 ⊢ Q r₀) :
    St m c 15 1 16 15 15 15 0 0 0 0 0 0 0 0 0
      ⊢ WP c (k0_part23 xM h0 wAll h1 oM h2 slots h3 ysAll h4 rcvAll h5 amSrc h6 amAll h7 cc0_scratch5 cc0_scratch6 cc0_scratch7 cc0_scratch8 cc0_scratch9 c v2 (xb m c) (vmx m c 14)) Q := by
  rw [k0_part23_eq_skeleton]
  unfold k0_part23_skel WP
  simp only [semSignalWord, semWaitWord, Prog.lift, Prog.bind_op, Prog.bind_ret, Prog.pure_eq_ret, wp_deviceId]
  refine step_wwait m (by decide) (by decide) (by decide) rfl (slot_credit 15) ?_
  refine step_slotload m (t := 15) (by decide) ?_
  refine step_ownload m (off4_eq c) fun _ => ?_
  refine step_ownstore m (off4_eq c) rfl ?_
  refine step_maxload m fun _ => ?_
  refine step_maxstore m rfl ?_
  refine step_slabload m fun _ => ?_
  refine step_slabstore m rfl ?_
  exact ret_intro (h _)

theorem part24 {v2 : BitVec 32} {v690 : BitVec 32} {Q : (Σ' (v700 : BitVec 32) (v710 : BitVec 32), BitVec 32) → sProp 𝕄}
    (h : ∀ r₀ r₁ r₂, St m c 15 1 16 16 15 15 3 1 1 1 0 0 0 0 0 ⊢ Q ⟨r₀, r₁, r₂⟩) :
    St m c 15 1 16 16 15 15 0 1 1 1 0 0 0 0 0
      ⊢ WP c (k0_part24 xM h0 wAll h1 oM h2 slots h3 ysAll h4 rcvAll h5 amSrc h6 amAll h7 cc0_scratch5 cc0_scratch6 cc0_scratch7 cc0_scratch8 cc0_scratch9 c v2 v690) Q := by
  rw [k0_part24_eq_skeleton]
  unfold k0_part24_skel WP
  simp only [semSignalWord, semWaitWord, Prog.lift, Prog.bind_op, Prog.bind_ret, Prog.pure_eq_ret, wp_deviceId]
  refine step_maxsend m (by decide) (by decide) (to_peer (devs31 c).1) rfl rfl rfl ?_
  refine step_maxsend m (by decide) (by decide) (to_peer (devs31 c).2.1) rfl rfl rfl ?_
  refine step_maxsend m (by decide) (by decide) (to_peer (devs31 c).2.2.1) rfl rfl rfl ?_
  exact ret_intro (h _ _ _)

theorem part25 {v2 : BitVec 32} {v720 : BitVec 32} {Q : (Σ' (v730 : BitVec 32) (v740 : BitVec 32), BitVec 32) → sProp 𝕄}
    (h : ∀ r₀ r₁ r₂, St m c 15 1 16 16 15 15 6 1 1 1 0 0 0 0 0 ⊢ Q ⟨r₀, r₁, r₂⟩) :
    St m c 15 1 16 16 15 15 3 1 1 1 0 0 0 0 0
      ⊢ WP c (k0_part25 xM h0 wAll h1 oM h2 slots h3 ysAll h4 rcvAll h5 amSrc h6 amAll h7 cc0_scratch5 cc0_scratch6 cc0_scratch7 cc0_scratch8 cc0_scratch9 c v2 v720) Q := by
  rw [k0_part25_eq_skeleton]
  unfold k0_part25_skel WP
  simp only [semSignalWord, semWaitWord, Prog.lift, Prog.bind_op, Prog.bind_ret, Prog.pure_eq_ret, wp_deviceId]
  refine step_maxsend m (by decide) (by decide) (to_peer (devs31 c).2.2.2.1) rfl rfl rfl ?_
  refine step_maxsend m (by decide) (by decide) (to_peer (devs31 c).2.2.2.2.1) rfl rfl rfl ?_
  refine step_maxsend m (by decide) (by decide) (to_peer (devs31 c).2.2.2.2.2.1) rfl rfl rfl ?_
  exact ret_intro (h _ _ _)

theorem part26 {v2 : BitVec 32} {v750 : BitVec 32} {Q : (Σ' (v760 : BitVec 32) (v770 : BitVec 32), BitVec 32) → sProp 𝕄}
    (h : ∀ r₀ r₁ r₂, St m c 15 1 16 16 15 15 9 1 1 1 0 0 0 0 0 ⊢ Q ⟨r₀, r₁, r₂⟩) :
    St m c 15 1 16 16 15 15 6 1 1 1 0 0 0 0 0
      ⊢ WP c (k0_part26 xM h0 wAll h1 oM h2 slots h3 ysAll h4 rcvAll h5 amSrc h6 amAll h7 cc0_scratch5 cc0_scratch6 cc0_scratch7 cc0_scratch8 cc0_scratch9 c v2 v750) Q := by
  rw [k0_part26_eq_skeleton]
  unfold k0_part26_skel WP
  simp only [semSignalWord, semWaitWord, Prog.lift, Prog.bind_op, Prog.bind_ret, Prog.pure_eq_ret, wp_deviceId]
  refine step_maxsend m (by decide) (by decide) (to_peer (devs31 c).2.2.2.2.2.2.1) rfl rfl rfl ?_
  refine step_maxsend m (by decide) (by decide) (to_peer (devs31 c).2.2.2.2.2.2.2.1) rfl rfl rfl ?_
  refine step_maxsend m (by decide) (by decide) (to_peer (devs31 c).2.2.2.2.2.2.2.2.1) rfl rfl rfl ?_
  exact ret_intro (h _ _ _)

theorem part27 {v2 : BitVec 32} {v780 : BitVec 32} {Q : (Σ' (v790 : BitVec 32) (v800 : BitVec 32), BitVec 32) → sProp 𝕄}
    (h : ∀ r₀ r₁ r₂, St m c 15 1 16 16 15 15 12 1 1 1 0 0 0 0 0 ⊢ Q ⟨r₀, r₁, r₂⟩) :
    St m c 15 1 16 16 15 15 9 1 1 1 0 0 0 0 0
      ⊢ WP c (k0_part27 xM h0 wAll h1 oM h2 slots h3 ysAll h4 rcvAll h5 amSrc h6 amAll h7 cc0_scratch5 cc0_scratch6 cc0_scratch7 cc0_scratch8 cc0_scratch9 c v2 v780) Q := by
  rw [k0_part27_eq_skeleton]
  unfold k0_part27_skel WP
  simp only [semSignalWord, semWaitWord, Prog.lift, Prog.bind_op, Prog.bind_ret, Prog.pure_eq_ret, wp_deviceId]
  refine step_maxsend m (by decide) (by decide) (to_peer (devs31 c).2.2.2.2.2.2.2.2.2.1) rfl rfl rfl ?_
  refine step_maxsend m (by decide) (by decide) (to_peer (devs31 c).2.2.2.2.2.2.2.2.2.2.1) rfl rfl rfl ?_
  refine step_maxsend m (by decide) (by decide) (to_peer (devs31 c).2.2.2.2.2.2.2.2.2.2.2.1) rfl rfl rfl ?_
  exact ret_intro (h _ _ _)

theorem part28 {v2 : BitVec 32} {v690 : BitVec 32} {v810 : BitVec 32} {Q : (Σ' (v820 : BitVec 32), BitVec 32) → sProp 𝕄}
    (h : ∀ r₀ r₁, St m c 15 1 16 16 15 15 15 1 1 1 0 0 0 0 0 ⊢ Q ⟨r₀, r₁⟩) :
    St m c 15 1 16 16 15 15 12 1 1 1 0 0 0 0 0
      ⊢ WP c (k0_part28 xM h0 wAll h1 oM h2 slots h3 ysAll h4 rcvAll h5 amSrc h6 amAll h7 cc0_scratch5 cc0_scratch6 cc0_scratch7 cc0_scratch8 cc0_scratch9 c v2 v690 v810) Q := by
  rw [k0_part28_eq_skeleton]
  unfold k0_part28_skel WP
  simp only [semSignalWord, semWaitWord, Prog.lift, Prog.bind_op, Prog.bind_ret, Prog.pure_eq_ret, wp_deviceId]
  refine step_maxsend m (by decide) (by decide) (to_peer (devs31 c).2.2.2.2.2.2.2.2.2.2.2.2.1) rfl rfl rfl ?_
  refine step_maxsend m (by decide) (by decide) (to_peer (devs31 c).2.2.2.2.2.2.2.2.2.2.2.2.2.1) rfl rfl rfl ?_
  refine step_maxsend m (by decide) (by decide) (to_peer (devs31 c).2.2.2.2.2.2.2.2.2.2.2.2.2.2) rfl rfl rfl ?_
  exact ret_intro (h _ _)

theorem part29 {v700 : BitVec 32} {v710 : BitVec 32} {v720 : BitVec 32} {v730 : BitVec 32} {Q : (PUnit) → sProp 𝕄}
    (h : St m c 15 1 16 16 15 15 15 1 1 1 4 0 0 0 0 ⊢ Q ⟨⟩) :
    St m c 15 1 16 16 15 15 15 1 1 1 0 0 0 0 0
      ⊢ WP c (k0_part29 xM h0 wAll h1 oM h2 slots h3 ysAll h4 rcvAll h5 amSrc h6 amAll h7 cc0_scratch5 cc0_scratch6 cc0_scratch7 cc0_scratch8 cc0_scratch9 v700 v710 v720 v730) Q := by
  rw [k0_part29_eq_skeleton]
  unfold k0_part29_skel WP
  simp only [semSignalWord, semWaitWord, Prog.lift, Prog.bind_op, Prog.bind_ret, Prog.pure_eq_ret, wp_deviceId]
  refine step_arwait m (by decide) rfl (am_credit 1) ?_
  refine step_arwait m (by decide) rfl (am_credit 2) ?_
  refine step_arwait m (by decide) rfl (am_credit 3) ?_
  refine step_arwait m (by decide) rfl (am_credit 4) ?_
  exact ret_intro (h)

theorem part30 {v740 : BitVec 32} {v750 : BitVec 32} {v760 : BitVec 32} {v770 : BitVec 32} {Q : (PUnit) → sProp 𝕄}
    (h : St m c 15 1 16 16 15 15 15 1 1 1 9 0 0 0 0 ⊢ Q ⟨⟩) :
    St m c 15 1 16 16 15 15 15 1 1 1 4 0 0 0 0
      ⊢ WP c (k0_part30 xM h0 wAll h1 oM h2 slots h3 ysAll h4 rcvAll h5 amSrc h6 amAll h7 cc0_scratch5 cc0_scratch6 cc0_scratch7 cc0_scratch8 cc0_scratch9 v740 v750 v760 v770) Q := by
  rw [k0_part30_eq_skeleton]
  unfold k0_part30_skel WP
  simp only [semSignalWord, semWaitWord, Prog.lift, Prog.bind_op, Prog.bind_ret, Prog.pure_eq_ret, wp_deviceId]
  refine step_arwait m (by decide) rfl (am_credit 5) ?_
  refine step_arwait m (by decide) rfl (am_credit 6) ?_
  refine step_arwait m (by decide) rfl (am_credit 7) ?_
  refine step_arwait m (by decide) rfl (am_credit 8) ?_
  refine step_arwait m (by decide) rfl (am_credit 9) ?_
  exact ret_intro (h)

theorem part31 {v780 : BitVec 32} {v790 : BitVec 32} {v800 : BitVec 32} {v810 : BitVec 32} {v820 : BitVec 32} {Q : (BitVec 32) → sProp 𝕄}
    (h : ∀ r₀, St m c 15 1 16 16 15 15 15 1 1 1 13 0 0 0 0 ⊢ Q r₀) :
    St m c 15 1 16 16 15 15 15 1 1 1 9 0 0 0 0
      ⊢ WP c (k0_part31 xM h0 wAll h1 oM h2 slots h3 ysAll h4 rcvAll h5 amSrc h6 amAll h7 cc0_scratch5 cc0_scratch6 cc0_scratch7 cc0_scratch8 cc0_scratch9 v780 v790 v800 v810 v820) Q := by
  rw [k0_part31_eq_skeleton]
  unfold k0_part31_skel WP
  simp only [semSignalWord, semWaitWord, Prog.lift, Prog.bind_op, Prog.bind_ret, Prog.pure_eq_ret, wp_deviceId]
  refine step_arwait m (by decide) rfl (am_credit 10) ?_
  refine step_arwait m (by decide) rfl (am_credit 11) ?_
  refine step_arwait m (by decide) rfl (am_credit 12) ?_
  refine step_arwait m (by decide) rfl (am_credit 13) ?_
  exact ret_intro (h _)

theorem part32 {v132 : BitVec 32} {v170 : BitVec 32} {v830 : BitVec 32} {v917 : BitVec 32} {Q : (Σ' (v934 : F .f32), F .f32) → sProp 𝕄}
    (h : St m c 15 1 16 16 15 15 15 1 1 1 15 1 0 0 0 ⊢ Q ⟨k0_pay55 (amFull m c), k0_pay56 (amFull m c)⟩) :
    St m c 15 1 16 16 15 15 15 1 1 1 13 0 0 0 0
      ⊢ WP c (k0_part32 xM h0 wAll h1 oM h2 slots h3 ysAll h4 rcvAll h5 amSrc h6 amAll h7 cc0_scratch5 cc0_scratch6 cc0_scratch7 cc0_scratch8 cc0_scratch9 c v132 v170 v830 v917) Q := by
  rw [k0_part32_eq_skeleton]
  unfold k0_part32_skel WP
  simp only [semSignalWord, semWaitWord, Prog.lift, Prog.bind_op, Prog.bind_ret, Prog.pure_eq_ret, wp_deviceId]
  refine step_arwait m (by decide) rfl (am_credit 14) ?_
  refine step_arwait m (by decide) rfl (am_credit 15) ?_
  refine step_amload m ?_
  refine step_drwait m (by decide) rfl (rows_credit (off2_eq c)) ?_
  exact ret_intro (h)

theorem part33 {v209 : BitVec 32} {v248 : BitVec 32} {v287 : BitVec 32} {v326 : BitVec 32} {Q : (PUnit) → sProp 𝕄}
    (h : St m c 15 1 16 16 15 15 15 1 1 1 15 6 0 0 0 ⊢ Q ⟨⟩) :
    St m c 15 1 16 16 15 15 15 1 1 1 15 1 0 0 0
      ⊢ WP c (k0_part33 xM h0 wAll h1 oM h2 slots h3 ysAll h4 rcvAll h5 amSrc h6 amAll h7 cc0_scratch5 cc0_scratch6 cc0_scratch7 cc0_scratch8 cc0_scratch9 c v209 v248 v287 v326) Q := by
  rw [k0_part33_eq_skeleton]
  unfold k0_part33_skel WP
  simp only [semSignalWord, semWaitWord, Prog.lift, Prog.bind_op, Prog.bind_ret, Prog.pure_eq_ret, wp_deviceId]
  refine step_drwait m (by decide) rfl (rows_credit (off2_eq c)) ?_
  refine step_drwait m (by decide) rfl (rows_credit (off2_eq c)) ?_
  refine step_drwait m (by decide) rfl (rows_credit (off2_eq c)) ?_
  refine step_drwait m (by decide) rfl (rows_credit (off2_eq c)) ?_
  refine step_drwait m (by decide) rfl (rows_credit (off2_eq c)) ?_
  exact ret_intro (h)

theorem part34 {v365 : BitVec 32} {v404 : BitVec 32} {v443 : BitVec 32} {v479 : BitVec 32} {v509 : BitVec 32} {Q : (BitVec 32) → sProp 𝕄}
    (h : ∀ r₀, St m c 15 1 16 16 15 15 15 1 1 1 15 10 0 0 0 ⊢ Q r₀) :
    St m c 15 1 16 16 15 15 15 1 1 1 15 6 0 0 0
      ⊢ WP c (k0_part34 xM h0 wAll h1 oM h2 slots h3 ysAll h4 rcvAll h5 amSrc h6 amAll h7 cc0_scratch5 cc0_scratch6 cc0_scratch7 cc0_scratch8 cc0_scratch9 c v365 v404 v443 v479 v509) Q := by
  rw [k0_part34_eq_skeleton]
  unfold k0_part34_skel WP
  simp only [semSignalWord, semWaitWord, Prog.lift, Prog.bind_op, Prog.bind_ret, Prog.pure_eq_ret, wp_deviceId]
  refine step_drwait m (by decide) rfl (rows_credit (off2_eq c)) ?_
  refine step_drwait m (by decide) rfl (rows_credit (off2_eq c)) ?_
  refine step_drwait m (by decide) rfl (rows_credit (off2_eq c)) ?_
  refine step_drwait m (by decide) rfl (rows_credit (off2_eq c)) ?_
  exact ret_intro (h _)

theorem part35 {v539 : BitVec 32} {v569 : BitVec 32} {v599 : BitVec 32} {v629 : BitVec 32} {v996 : BitVec 32} {Q : (PUnit) → sProp 𝕄}
    (h : St m c 15 1 16 16 15 15 15 1 1 1 15 14 0 0 0 ⊢ Q ⟨⟩) :
    St m c 15 1 16 16 15 15 15 1 1 1 15 10 0 0 0
      ⊢ WP c (k0_part35 xM h0 wAll h1 oM h2 slots h3 ysAll h4 rcvAll h5 amSrc h6 amAll h7 cc0_scratch5 cc0_scratch6 cc0_scratch7 cc0_scratch8 cc0_scratch9 c v539 v569 v599 v629 v996) Q := by
  rw [k0_part35_eq_skeleton]
  unfold k0_part35_skel WP
  simp only [semSignalWord, semWaitWord, Prog.lift, Prog.bind_op, Prog.bind_ret, Prog.pure_eq_ret, wp_deviceId]
  refine step_drwait m (by decide) rfl (rows_credit (off2_eq c)) ?_
  refine step_drwait m (by decide) rfl (rows_credit (off2_eq c)) ?_
  refine step_drwait m (by decide) rfl (rows_credit (off2_eq c)) ?_
  refine step_drwait m (by decide) rfl (rows_credit (off2_eq c)) ?_
  exact ret_intro (h)

theorem part36 {Q : (PUnit) → sProp 𝕄}
    (h : St m c 15 1 16 16 15 15 15 1 1 1 15 15 3 0 1 ⊢ Q ⟨⟩) :
    St m c 15 1 16 16 15 15 15 1 1 1 15 14 0 0 0
      ⊢ WP c (k0_part36 xM h0 wAll h1 oM h2 slots h3 ysAll h4 rcvAll h5 amSrc h6 amAll h7 cc0_scratch5 cc0_scratch6 cc0_scratch7 cc0_scratch8 cc0_scratch9 c (k0_pay55 (amFull m c)) (k0_pay56 (amFull m c))) Q := by
  rw [k0_part36_eq_skeleton]
  unfold k0_part36_skel WP
  simp only [semSignalWord, semWaitWord, Prog.lift, Prog.bind_op, Prog.bind_ret, Prog.pure_eq_ret, wp_deviceId]
  refine step_drwait m (by decide) rfl (rows_credit (off2_eq c)) ?_
  refine step_rcvload m ?_
  refine step_outload m fun _ => ?_
  refine step_outstore m rfl ?_
  refine step_dswait m (by decide) rfl (ys_credit 0) ?_
  refine step_dswait m (by decide) rfl (ys_credit 1) ?_
  refine step_dswait m (by decide) rfl (ys_credit 2) ?_
  exact ret_intro (h)

theorem part37 {Q : (PUnit) → sProp 𝕄}
    (h : St m c 15 1 16 16 15 15 15 1 1 1 15 15 8 0 1 ⊢ Q ⟨⟩) :
    St m c 15 1 16 16 15 15 15 1 1 1 15 15 3 0 1
      ⊢ WP c (k0_part37 xM h0 wAll h1 oM h2 slots h3 ysAll h4 rcvAll h5 amSrc h6 amAll h7 cc0_scratch5 cc0_scratch6 cc0_scratch7 cc0_scratch8 cc0_scratch9 c) Q := by
  rw [k0_part37_eq_skeleton]
  unfold k0_part37_skel WP
  simp only [semSignalWord, semWaitWord, Prog.lift, Prog.bind_op, Prog.bind_ret, Prog.pure_eq_ret, wp_deviceId]
  refine step_dswait m (by decide) rfl (ys_credit 3) ?_
  refine step_dswait m (by decide) rfl (ys_credit 4) ?_
  refine step_dswait m (by decide) rfl (ys_credit 5) ?_
  refine step_dswait m (by decide) rfl (ys_credit 6) ?_
  refine step_dswait m (by decide) rfl (ys_credit 7) ?_
  exact ret_intro (h)

theorem part38 {Q : (PUnit) → sProp 𝕄}
    (h : St m c 15 1 16 16 15 15 15 1 1 1 15 15 14 0 1 ⊢ Q ⟨⟩) :
    St m c 15 1 16 16 15 15 15 1 1 1 15 15 8 0 1
      ⊢ WP c (k0_part38 xM h0 wAll h1 oM h2 slots h3 ysAll h4 rcvAll h5 amSrc h6 amAll h7 cc0_scratch5 cc0_scratch6 cc0_scratch7 cc0_scratch8 cc0_scratch9 c) Q := by
  rw [k0_part38_eq_skeleton]
  unfold k0_part38_skel WP
  simp only [semSignalWord, semWaitWord, Prog.lift, Prog.bind_op, Prog.bind_ret, Prog.pure_eq_ret, wp_deviceId]
  refine step_dswait m (by decide) rfl (ys_credit 8) ?_
  refine step_dswait m (by decide) rfl (ys_credit 9) ?_
  refine step_dswait m (by decide) rfl (ys_credit 10) ?_
  refine step_dswait m (by decide) rfl (ys_credit 11) ?_
  refine step_dswait m (by decide) rfl (ys_credit 12) ?_
  refine step_dswait m (by decide) rfl (ys_credit 13) ?_
  exact ret_intro (h)

theorem part39 {Q : (PUnit) → sProp 𝕄}
    (h : St m c 15 1 16 16 15 15 15 1 1 1 15 15 15 4 1 ⊢ Q ⟨⟩) :
    St m c 15 1 16 16 15 15 15 1 1 1 15 15 14 0 1
      ⊢ WP c (k0_part39 xM h0 wAll h1 oM h2 slots h3 ysAll h4 rcvAll h5 amSrc h6 amAll h7 cc0_scratch5 cc0_scratch6 cc0_scratch7 cc0_scratch8 cc0_scratch9 c) Q := by
  rw [k0_part39_eq_skeleton]
  unfold k0_part39_skel WP
  simp only [semSignalWord, semWaitWord, Prog.lift, Prog.bind_op, Prog.bind_ret, Prog.pure_eq_ret, wp_deviceId]
  refine step_dswait m (by decide) rfl (ys_credit 14) ?_
  refine step_aswait m (by decide) rfl amSrc_credit ?_
  refine step_aswait m (by decide) rfl amSrc_credit ?_
  refine step_aswait m (by decide) rfl amSrc_credit ?_
  refine step_aswait m (by decide) rfl amSrc_credit ?_
  exact ret_intro (h)

theorem part40 {Q : (PUnit) → sProp 𝕄}
    (h : St m c 15 1 16 16 15 15 15 1 1 1 15 15 15 9 1 ⊢ Q ⟨⟩) :
    St m c 15 1 16 16 15 15 15 1 1 1 15 15 15 4 1
      ⊢ WP c (k0_part40 xM h0 wAll h1 oM h2 slots h3 ysAll h4 rcvAll h5 amSrc h6 amAll h7 cc0_scratch5 cc0_scratch6 cc0_scratch7 cc0_scratch8 cc0_scratch9) Q := by
  rw [k0_part40_eq_skeleton]
  unfold k0_part40_skel WP
  simp only [semSignalWord, semWaitWord, Prog.lift, Prog.bind_op, Prog.bind_ret, Prog.pure_eq_ret, wp_deviceId]
  refine step_aswait m (by decide) rfl amSrc_credit ?_
  refine step_aswait m (by decide) rfl amSrc_credit ?_
  refine step_aswait m (by decide) rfl amSrc_credit ?_
  refine step_aswait m (by decide) rfl amSrc_credit ?_
  refine step_aswait m (by decide) rfl amSrc_credit ?_
  exact ret_intro (h)

end Parts

end Cert.KernelIdealProof

end
-- ==== Proof.Ideal.Body.lean ====
/-
# The kernel on one device

The parts one after another.
-/
module

public import proofs.«01_k».proof.Proof.Ideal.PartsEnd

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable {c : Dev nD} {h0 : xM.IsWhole} {h1 : wAll.IsWhole} {h2 : oM.IsWhole} {h3 : slots.IsWhole} {h4 : ysAll.IsWhole} {h5 : rcvAll.IsWhole}
  {h6 : amSrc.IsWhole} {h7 : amAll.IsWhole}

/-- A program after another. -/
theorem bind_intro {α β : Type} {P : sProp 𝕄} {p : Prog (TpuEff nD τ sig (Elt F) Λ₀ .tc) α} {k : α → Prog (TpuEff nD τ sig (Elt F) Λ₀ .tc) β} {Q : β → sProp 𝕄}
    (h : P ⊢ WP c p (fun x => WP c (k x) Q)) : P ⊢ WP c (p >>= k) Q := by
  unfold WP at h ⊢
  rw [wp_bind]
  exact h

/-- The state a device begins with, -/
abbrev St₀ (c : Dev nD) : sProp 𝕄 := St m c 0 0 0 0 0 0 0 0 0 0 0 0 0 0 0
/-- and the one it ends with. -/
abbrev St₁ (c : Dev nD) : sProp 𝕄 := St m c 15 1 16 16 15 15 15 1 1 1 15 15 15 15 1

theorem part41 {Q : PUnit → sProp 𝕄} (h : St m c 15 1 16 16 15 15 15 1 1 1 15 15 15 11 1 ⊢ Q ⟨⟩) :
    St₀ m c
      ⊢ WP c (k0_part41 xM h0 wAll h1 oM h2 slots h3 ysAll h4 rcvAll h5 amSrc h6 amAll h7 cc0_scratch5 cc0_scratch6 cc0_scratch7 cc0_scratch8 cc0_scratch9) Q := by
  rw [k0_part41_eq_skeleton]
  unfold k0_part41_skel
  refine bind_intro (part1 m (fun _ _ _ => ?_))
  refine bind_intro (part2 m (fun _ _ => ?_))
  refine bind_intro (part3 m (fun _ => ?_))
  refine bind_intro (part4 m (fun _ => ?_))
  refine bind_intro (part5 m (fun _ => ?_))
  refine bind_intro (part6 m (fun _ _ => ?_))
  refine bind_intro (part7 m (fun _ => ?_))
  refine bind_intro (part8 m (fun _ => ?_))
  refine bind_intro (part9 m (fun _ _ _ => ?_))
  refine bind_intro (part10 m (?_))
  refine bind_intro (part11 m (fun _ _ => ?_))
  refine bind_intro (part12 m (fun _ => ?_))
  refine bind_intro (part13 m (fun _ => ?_))
  refine bind_intro (part14 m (fun _ _ _ => ?_))
  refine bind_intro (part15 m (?_))
  refine bind_intro (part16 m (fun _ => ?_))
  refine bind_intro (part17 m (fun _ _ => ?_))
  refine bind_intro (part18 m (fun _ => ?_))
  refine bind_intro (part19 m (fun _ => ?_))
  refine bind_intro (part20 m (fun _ => ?_))
  refine bind_intro (part21 m (fun _ => ?_))
  refine bind_intro (part22 m (fun _ => ?_))
  refine bind_intro (part23 m (fun _ => ?_))
  refine bind_intro (part24 m (fun _ _ _ => ?_))
  refine bind_intro (part25 m (fun _ _ _ => ?_))
  refine bind_intro (part26 m (fun _ _ _ => ?_))
  refine bind_intro (part27 m (fun _ _ _ => ?_))
  refine bind_intro (part28 m (fun _ _ => ?_))
  refine bind_intro (part29 m (?_))
  refine bind_intro (part30 m (?_))
  refine bind_intro (part31 m (fun _ => ?_))
  refine bind_intro (part32 m (?_))
  refine bind_intro (part33 m (?_))
  refine bind_intro (part34 m (fun _ => ?_))
  refine bind_intro (part35 m (?_))
  refine bind_intro (part36 m (?_))
  refine bind_intro (part37 m (?_))
  refine bind_intro (part38 m (?_))
  refine bind_intro (part39 m (?_))
  refine bind_intro (part40 m (?_))
  unfold WP
  simp only [Prog.lift, Prog.bind_op, Prog.bind_ret, Prog.pure_eq_ret]
  refine step_aswait m (by decide) rfl amSrc_credit ?_
  refine step_aswait m (by decide) rfl amSrc_credit ?_
  exact ret_intro h

set_option maxRecDepth 10000 in
/-- The kernel on one device. -/
theorem body {Q : PUnit → sProp 𝕄} (h : St₁ m c ⊢ Q ⟨⟩) :
    St₀ m c ⊢ WP c (cc0_body xM h0 wAll h1 oM h2 slots h3 ysAll h4 rcvAll h5 amSrc h6 amAll h7 cc0_scratch5 cc0_scratch6 cc0_scratch7 cc0_scratch8 cc0_scratch9) Q := by
  rw [cc0_body_eq_skeleton]
  unfold cc0_body_skel
  refine bind_intro (part41 m ?_)
  unfold WP
  simp only [Prog.lift, Prog.bind_op, Prog.bind_ret, Prog.pure_eq_ret]
  refine step_aswait m (by decide) rfl amSrc_credit ?_
  refine step_aswait m (by decide) rfl amSrc_credit ?_
  refine step_aswait m (by decide) rfl amSrc_credit ?_
  refine step_aswait m (by decide) rfl amSrc_credit ?_
  exact ret_intro h

end Body

end Cert.KernelIdealProof

end
-- ==== Proof.Ideal.Deal.lean ====
/-
# What the launch deals out

Before the kernel runs, the rounds' ghost state is made and dealt: to everyone the knowledge of all cells, to device
`c` the positions of its own cells and the tokens of the duties it pays. A token is made with the cell it belongs to,
so the tokens of barriers and landings change hands here.
-/
module

public import proofs.«01_k».proof.Proof.Ideal.StepsOut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Iterated conjunctions: shifting, splitting, reflecting -/

section Ico

omit [FloatOps F] in
theorem fin_ico (n : ℕ) (Φ : ℕ → sProp 𝕄) : bigSep Finset.univ (fun k : Fin n => Φ k.val) = bigSep (Finset.Ico 0 n) Φ := by
  have e : Finset.Ico 0 n = (Finset.univ : Finset (Fin n)).map Fin.valEmbedding := by
    ext x
    simp only [Finset.mem_Ico, Finset.mem_map, Finset.mem_univ, true_and, Fin.valEmbedding_apply]
    exact ⟨fun h => ⟨⟨x, h.2⟩, rfl⟩, fun ⟨k, hk⟩ => hk ▸ ⟨Nat.zero_le _, k.isLt⟩⟩
  rw [e, BI.bigSep_map]; rfl

omit [FloatOps F] in
theorem ico_shift (a n : ℕ) (Φ : ℕ → sProp 𝕄) : bigSep (Finset.Ico a (a + n)) Φ = bigSep (Finset.Ico 0 n) (fun i => Φ (a + i)) := by
  have e : Finset.Ico a (a + n) = (Finset.Ico 0 n).map (addLeftEmbedding a) := by
    ext x
    simp only [Finset.mem_Ico, Finset.mem_map, addLeftEmbedding_apply]
    exact ⟨fun h => ⟨x - a, by omega, by omega⟩, fun ⟨k, hk, e⟩ => by omega⟩
  rw [e, BI.bigSep_map]; rfl

omit [FloatOps F] in
theorem ico_split {a b c : ℕ} (h₁ : a ≤ b) (h₂ : b ≤ c) (Φ : ℕ → sProp 𝕄) :
    bigSep (Finset.Ico a c) Φ = iprop(bigSep (Finset.Ico a b) Φ ∗ bigSep (Finset.Ico b c) Φ) := by
  have e : Finset.Ico a c = Finset.Ico a b ∪ Finset.Ico b c := by
    ext x; simp only [Finset.mem_union, Finset.mem_Ico]; omega
  rw [e, BI.bigSep_union (Finset.disjoint_left.mpr fun x hx hy => by
    simp only [Finset.mem_Ico] at hx hy; omega)]; rfl

omit [FloatOps F] in
/-- Read backwards. -/
theorem ico_reflect (Φ : ℕ → sProp 𝕄) : bigSep (Finset.Ico 1 16) Φ = bigSep (Finset.Ico 1 16) (fun d => Φ (16 - d)) := by
  have h := fun Ψ : ℕ → sProp 𝕄 => (ico_shift 1 15 Ψ).trans (fin_ico 15 (fun i => Ψ (1 + i))).symm
  rw [show (16 : ℕ) = 1 + 15 from rfl, h, h, bigSep_univ_equiv Fin.revPerm]
  refine bigSep_congr fun k _ => congrArg Φ ?_
  have := k.isLt
  show 1 + (15 - (k.val + 1)) = 1 + 15 - (1 + k.val); omega

omit [FloatOps F] in
/-- The peers at all distances are all devices. -/
theorem peers_all (c : Dev nD) (Φ : ℕ → sProp 𝕄) :
    bigSep Finset.univ (fun s : Fin 16 => Φ s.val) = bigSep (Finset.Ico 0 16) (fun d => Φ (peer c d).val) := by
  let e16 : Fin 16 ≃ Fin 16 := ⟨fun d => peer c d.val, fun s => peer s (16 - c.val),
    fun d => Fin.ext (by have : c.val < 16 := c.isLt; have := d.isLt; simp only [peer_val]; omega),
    fun d => Fin.ext (by have : c.val < 16 := c.isLt; have := d.isLt; simp only [peer_val]; omega)⟩
  rw [← fin_ico 16 (fun d => Φ (peer c d).val)]
  exact bigSep_univ_equiv e16 (fun s : Fin 16 => Φ s.val)

end Ico

/-! ## The cells of a device, family by family -/

/-- The semaphores by number. -/
def semN (n : ℕ) : SemLoc sig := if h : n < 72 then .dma ⟨2 + n, by show _ < 74; omega⟩ else .reg barS

theorem csem_eq (k : Fin 73) : csem k = semN k.val := rfl
theorem semN_dma {n : ℕ} (s : DmaSem sig) (h : s.val = 2 + n) : semN n = .dma s := by
  have : s.val < 74 := s.isLt
  unfold semN; rw [dif_pos (show n < 72 by omega)]
  exact congrArg _ (Fin.ext h.symm)
theorem semN_bar : semN 72 = .reg barS := dif_neg (by decide)

theorem semN_inj {a b : ℕ} (ha : a < 73) (hb : b < 73) (h : semN a = semN b) : a = b := by
  unfold semN at h
  split at h <;> split at h
  · have := congrArg Fin.val (SemLoc.dma.inj h); simp only at this; omega
  · cases h
  · cases h
  · omega

omit [FloatOps F] in
theorem ico_families (Φ : SemLoc sig → sProp 𝕄) :
    bigSep (Finset.Ico 0 72) (fun n => Φ (semN n))
      = iprop((bigSep (Finset.Ico 0 8) fun t => Φ (.dma (wS t)))
        ∗ (bigSep (Finset.Ico 0 16) fun d => Φ (.dma (dsendS d))) ∗ (bigSep (Finset.Ico 0 16) fun d => Φ (.dma (drecvS d)))
        ∗ (bigSep (Finset.Ico 0 16) fun d => Φ (.dma (asendS d))) ∗ (bigSep (Finset.Ico 0 16) fun d => Φ (.dma (arecvS d)))) := by
  have hf (a n : ℕ) (f : ℕ → DmaSem sig) (hv : ∀ i < n, (f i).val = 2 + (a + i)) :
      bigSep (Finset.Ico a (a + n)) (fun n => Φ (semN n)) = bigSep (Finset.Ico 0 n) fun i => Φ (.dma (f i)) := by
    rw [ico_shift]
    exact bigSep_congr fun i hi => congrArg Φ (semN_dma (f i) (hv i (Finset.mem_Ico.mp hi).2))
  rw [ico_split (show 0 ≤ 8 by omega) (show 8 ≤ 72 by omega), ico_split (show 8 ≤ 24 by omega) (show 24 ≤ 72 by omega),
    ico_split (show 24 ≤ 40 by omega) (show 40 ≤ 72 by omega), ico_split (show 40 ≤ 56 by omega) (show 56 ≤ 72 by omega),
    show bigSep (Finset.Ico 0 8) (fun n => Φ (semN n)) = _ from hf 0 8 wS fun i hi => by rw [wS_val]; omega,
    show bigSep (Finset.Ico 8 24) (fun n => Φ (semN n)) = _ from hf 8 16 dsendS fun i hi => by rw [dsendS_val]; omega,
    show bigSep (Finset.Ico 24 40) (fun n => Φ (semN n)) = _ from hf 24 16 drecvS fun i hi => by rw [drecvS_val]; omega,
    show bigSep (Finset.Ico 40 56) (fun n => Φ (semN n)) = _ from hf 40 16 asendS fun i hi => by rw [asendS_val]; omega,
    show bigSep (Finset.Ico 56 72) (fun n => Φ (semN n)) = _ from hf 56 16 arecvS fun i hi => by rw [arecvS_val]; omega]

omit [FloatOps F] in
/-- All cells of a device: the barrier and the five families. -/
theorem families (Φ : SemLoc sig → sProp 𝕄) :
    bigSep Finset.univ (fun k : Fin 73 => Φ (csem k))
      = iprop(Φ (.reg barS) ∗ (bigSep (Finset.Ico 0 8) fun t => Φ (.dma (wS t)))
        ∗ (bigSep (Finset.Ico 0 16) fun d => Φ (.dma (dsendS d))) ∗ (bigSep (Finset.Ico 0 16) fun d => Φ (.dma (drecvS d)))
        ∗ (bigSep (Finset.Ico 0 16) fun d => Φ (.dma (asendS d))) ∗ (bigSep (Finset.Ico 0 16) fun d => Φ (.dma (arecvS d)))) := by
  refine (show _ = _ from fin_ico 73 fun n => Φ (semN n)).trans ?_
  rw [ico_last (show 0 ≤ 72 by omega), ico_families, semN_bar]

/-! ## The cells and the tokens at the launch -/

theorem kcell_injective : Function.Injective (kcell : Dev nD × Fin 73 → GSem nD τ sig) := by
  rintro ⟨c, k⟩ ⟨c', k'⟩ h
  have h1 : c = c' := congrArg (fun g : GSem nD τ sig => g.1.1) h
  subst h1
  have h2 : semN k.val = semN k'.val := congrArg Prod.snd h
  exact congrArg _ (Fin.ext (semN_inj k.isLt k'.isLt h2))

def theCells : Finset (GSem nD τ sig) := Finset.univ.map ⟨kcell, kcell_injective⟩

/-- The duties of device `c`'s own cells: six families of sixteen. (Of each but the copies of `w` the first is not used.) -/
def tokOf (x : (Dev nD × Fin 16) × Fin 6) : GSem nD τ sig × ℕ × ℕ :=
  match x.2 with
  | 0 => (barC x.1.1, 0, x.1.2.val)
  | 1 => (dmaC x.1.1 (wS x.1.2.val), x.1.2.val / 8, 0)
  | 2 => (dmaC x.1.1 (dsendS x.1.2.val), 0, 0)
  | 3 => (dmaC x.1.1 (drecvS x.1.2.val), 0, 0)
  | 4 => (dmaC x.1.1 (asendS x.1.2.val), 0, 0)
  | 5 => (dmaC x.1.1 (arecvS x.1.2.val), 0, 0)

/-- A number that tells the duties of a device apart. -/
def tokKey (x : GSem nD τ sig × ℕ × ℕ) : ℕ :=
  match x.1.2 with
  | .reg _ => x.2.2
  | .dma s => 100 + 2 * s.val + x.2.1

theorem tokOf_injective : Function.Injective tokOf := by
  rintro ⟨⟨c, d⟩, j⟩ ⟨⟨c', d'⟩, j'⟩ h
  have h1 : c = c' := by
    have := congrArg (fun x : GSem nD τ sig × ℕ × ℕ => x.1.1.1) h
    fin_cases j <;> fin_cases j' <;> exact this
  subst h1
  have hk := congrArg tokKey h
  have hd := d.isLt; have hd' := d'.isLt
  have : d.val = d'.val ∧ j = j' := by
    fin_cases j <;> fin_cases j' <;>
      simp only [tokOf, tokKey, wS_val, dsendS_val, drecvS_val, asendS_val, arecvS_val] at hk <;>
      first
        | exact ⟨by omega, rfl⟩
        | (exfalso; omega)
  obtain ⟨e1, e2⟩ := this
  have e1' : d = d' := Fin.ext e1
  subst e1'; subst e2; rfl

def theToks : Finset (GSem nD τ sig × ℕ × ℕ) := Finset.univ.map ⟨tokOf, tokOf_injective⟩

/-- The tokens of the duties device `p` pays towards distance `d`, and its own at `d`. -/
def payTok (p : Dev nD) (d : ℕ) : sProp 𝕄 :=
  iprop(dutyTok ER (barC (peer p d)) 0 ((16 - d) % 16) ∗ dutyTok ER (dmaC p (wS d)) (d / 8) 0
    ∗ dutyTok ER (dmaC p (dsendS d)) 0 0 ∗ dutyTok ER (dmaC (peer p d) (drecvS d)) 0 0
    ∗ dutyTok ER (dmaC p (asendS d)) 0 0 ∗ dutyTok ER (dmaC (peer p d) (arecvS d)) 0 0)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- From a barrier's owner and distance to its payer's. -/
def swapPair : (Dev nD × Fin 16) ≃ (Dev nD × Fin 16) :=
  ⟨fun x => (peer x.1 x.2.val, ⟨(16 - x.2.val) % 16, Nat.mod_lt _ (by decide)⟩),
    fun x => (peer x.1 x.2.val, ⟨(16 - x.2.val) % 16, Nat.mod_lt _ (by decide)⟩),
    fun ⟨p, d⟩ => Prod.ext (Fin.ext (by have : p.val < 16 := p.isLt; have := d.isLt; simp only [peer_val]; omega))
      (Fin.ext (by have := d.isLt; simp only; omega)),
    fun ⟨p, d⟩ => Prod.ext (Fin.ext (by have : p.val < 16 := p.isLt; have := d.isLt; simp only [peer_val]; omega))
      (Fin.ext (by have := d.isLt; simp only; omega))⟩
/-- From a landing's receiver to its sender. -/
def movePair : (Dev nD × Fin 16) ≃ (Dev nD × Fin 16) :=
  ⟨fun x => (peer x.1 x.2.val, x.2), fun x => (peer x.1 (16 - x.2.val), x.2),
    fun ⟨p, d⟩ => Prod.ext (Fin.ext (by have : p.val < 16 := p.isLt; have := d.isLt; simp only [peer_val]; omega)) rfl,
    fun ⟨p, d⟩ => Prod.ext (Fin.ext (by have : p.val < 16 := p.isLt; have := d.isLt; simp only [peer_val]; omega)) rfl⟩

omit [FloatOps F] in
/-- All tokens, dealt to those who pay. -/
theorem toks_dealt : bigSep theToks (fun x => (dutyTok ER x.1 x.2.1 x.2.2 : sProp 𝕄))
    = bigSep Finset.univ fun c : Dev nD => bigSep (Finset.Ico 0 16) fun d => payTok c d := by
  unfold theToks
  rw [BI.bigSep_map, bigSep_univ_prod]
  simp only [bigSep_fin6, Function.Embedding.coeFn_mk]
  rw [bigSep_congr (s := Finset.univ) (fun (c : Dev nD) _ => (fin_ico 16 (fun d => (payTok c d : sProp 𝕄))).symm),
    ← bigSep_univ_prod (fun x : Dev nD × Fin 16 => (payTok x.1 x.2.val : sProp 𝕄))]
  unfold payTok
  simp only [bigSep_sep']
  refine congr (congrArg BIBase.sep ?_) (congr (congrArg BIBase.sep rfl) (congr (congrArg BIBase.sep rfl)
    (congr (congrArg BIBase.sep ?_) (congr (congrArg BIBase.sep rfl) ?_))))
  · exact bigSep_univ_equiv swapPair (fun x : Dev nD × Fin 16 => (dutyTok ER (barC x.1) 0 x.2.val : sProp 𝕄))
  · exact bigSep_univ_equiv movePair (fun x : Dev nD × Fin 16 => (dutyTok ER (dmaC x.1 (drecvS x.2.val)) 0 0 : sProp 𝕄))
  · exact bigSep_univ_equiv movePair (fun x : Dev nD × Fin 16 => (dutyTok ER (dmaC x.1 (arecvS x.2.val)) 0 0 : sProp 𝕄))

/-! ## The launch's own element, and the cells' invariants -/

def u₀ : UU :=
  (initOf (Pipeline.cells cfgs cellOf_inj) (Pipeline.launchToks cfgs cellOf_inj), initOf theCells theToks)

/-- What the launch element gives device `c`: its cells' states and positions, and the tokens it pays with. -/
def G (c : Dev nD) : sProp 𝕄 :=
  iprop((bigSep Finset.univ fun k : Fin 73 => roundState ER (Rd m) (kcell (c, k)) 0)
    ∗ (bigSep Finset.univ fun k : Fin 73 => reached ER (kcell (c, k)) 0)
    ∗ (bigSep Finset.univ fun k : Fin 73 => atPos ER (kcell (c, k)) 0 ∅ 0) ∗ bigSep (Finset.Ico 0 16) fun d => payTok c d)

/-- What device `c` keeps of it. -/
def mine (c : Dev nD) : sProp 𝕄 :=
  iprop((bigSep Finset.univ fun k : Fin 73 => atPos ER (kcell (c, k)) 0 ∅ 0) ∗ bigSep (Finset.Ico 0 16) fun d => payTok c d)

def known : sProp 𝕄 := bigSep Finset.univ fun ck : Dev nD × Fin 73 => knows m (kcell ck)
instance known_persistent : BI.Persistent (known (F := F) m) := by unfold known; infer_instance

def G' (c : Dev nD) : sProp 𝕄 := iprop(known m ∗ mine c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Fin 73 => Φ (kcell (c, k)) := by
    unfold theCells; rw [BI.bigSep_map, bigSep_univ_prod]; rfl
  have hG : bigSep Finset.univ (G m) = iprop((bigSep theCells fun g => roundState ER (Rd m) g 0) ∗ (bigSep theCells fun g => reached ER g 0)
      ∗ (bigSep theCells fun g => atPos ER g 0 ∅ 0) ∗ bigSep theToks fun x => (dutyTok ER x.1 x.2.1 x.2.2 : sProp 𝕄)) := by
    rw [hX, hX, hX, toks_dealt]; unfold G; simp only [bigSep_sep']
  rw [hG]
  exact Rounds.fund ER (Rd m) theCells theToks

/-- The kernel's own semaphores, as the launch counts them. -/
def osem (k : Fin 72) : SemLoc sig := semN k.val

theorem ownSemFacts : Pipeline.OwnSemFacts cfg0.spec osem where
  isScoped := by decide
  inj a b h := Fin.ext (semN_inj (by omega) (by omega) h)
  disj := by decide

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep (Finset.Ico 0 72) fun n => semVal ((c : Thread nD τ), semN n) 0 :=
  fin_ico 72 fun n => semVal ((c : Thread nD τ), semN n) 0

theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 73 => semVal (kcell (c, k)) 0 : sProp 𝕄) := by
  refine .trans ?_ (show _ = _ from fin_ico 73 fun n => (semVal ((c : Thread nD τ), semN n) 0 : sProp 𝕄)).symm
  rw [ownSems0_eq, unscopedSems0_eq, ico_last (show 0 ≤ 72 by omega), semN_bar]
  exact sep_swap _ _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dev_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 73 => knows m (kcell (c, k))) ∗ mine c) := by
  have ha : iprop((bigSep Finset.univ fun k : Fin 73 => semVal (kcell (c, k)) 0) ∗ bigSep Finset.univ fun k : Fin 73 => roundState ER (Rd m) (kcell (c, k)) 0)
      ⊢ (|={Set.univ}=> bigSep Finset.univ fun k : Fin 73 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have hk : (bigSep Finset.univ fun k : Fin 73 => knows (F := F) m (kcell (c, k)))
      = iprop((bigSep Finset.univ fun k : Fin 73 => iprop(∃ κ : ℕ, cellInv ER (Rd m) κ (kcell (c, k))))
        ∗ bigSep Finset.univ fun k : Fin 73 => reached ER (kcell (c, k)) 0) := by unfold knows; rw [bigSep_sep']
  rw [hk]
  unfold G mine
  iintro ⟨Hos, Hus, Hst, Hr, Hat, Htok⟩
  ihave Hv := (Entails.of_eq (sems0_eq (F := F) c)) $$ [Hos Hus]
  · isplitl [Hos] <;> iassumption
  imod ha $$ [Hv Hst] with Hinv
  · isplitl [Hv] <;> iassumption
  imodintro
  isplitl [Hinv Hr]
  · isplitl [Hinv] <;> iassumption
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h : (bigSep Finset.univ fun c : Dev nD => iprop((bigSep Finset.univ fun k : Fin 73 => knows m (kcell (c, k))) ∗ mine c) : sProp 𝕄)
      ⊢ bigSep Finset.univ (G' m) := by
    rw [bigSep_sep', ← bigSep_univ_prod (fun ck : Dev nD × Fin 73 => knows (F := F) m (kcell ck))]
    exact bigSep_with (R := known m) fun c _ => .refl
  exact ((bigSep_mono fun c _ => dev_alloc m c).trans (bigSep_fupd _ _)).trans (BI.fupd_mono h)

end Cert.KernelIdealProof

end
-- ==== Proof.Ideal.Open.lean ====
/-
# Where a device starts

The credits the other devices' debts give device `c`, and its buffers cut into the pieces the protocol speaks of.
-/
module

public import proofs.«01_k».proof.Proof.Ideal.Deal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The credit a device starts with -/

/-- What a device owes before its first operation. -/
def O₀ (c : Dev nD) : CellTallies nD τ sig Unit := owing c 0 0 0

/-- What all devices together owe device `c`'s cell `sm` in a family of debts towards all distances. -/
theorem owed_family (h : ℕ → SemLoc sig) (N : ℕ) (c : Dev nD) (sm : SemLoc sig) :
    ∑ d : Dev nD, (∑ k ∈ Finset.Ico 1 16, (tallyAt ((peer d k : Thread nD τ), h k) () N : CellTallies nD τ sig Unit)) ((c : Thread nD τ), sm) ()
      = ∑ k ∈ Finset.Ico 1 16, if sm = h k then N else 0 := by
  simp only [Finset.sum_apply, Finsupp.finset_sum_apply, tallyAt_apply]
  rw [Finset.sum_comm]
  refine Finset.sum_congr rfl fun k hk => ?_
  have hk := Finset.mem_Ico.mp hk
  rw [Finset.sum_eq_single (peer c (16 - k))]
  · rw [peer_back' c (show k ≤ 16 by omega)]
    by_cases e : sm = h k
    · subst e; rw [if_pos rfl, if_pos ⟨rfl, trivial⟩]
    · rw [if_neg e, if_neg fun x => e (congrArg Prod.snd x.1)]
  · intro d _ hd
    refine if_neg fun x => hd ?_
    have e : c = peer d k := congrArg (fun g : GSem nD τ sig => g.1.1) x.1
    rw [e, peer_back d (show k ≤ 16 by omega)]
  · intro hn; exact absurd (Finset.mem_univ _) hn

theorem owed_all (c : Dev nD) (sm : SemLoc sig) :
    launchCredit (Pipeline.owing O₀) 0 ((c : Thread nD τ), sm) ()
      = (∑ k ∈ Finset.Ico 1 16, if sm = .reg barS then 1 else 0) + (∑ k ∈ Finset.Ico 1 16, if sm = .dma (drecvS k) then Nd else 0)
        + ∑ k ∈ Finset.Ico 1 16, if sm = .dma (arecvS k) then Na else 0 := by
  rw [Pipeline.launchCredit_owing]
  unfold O₀ owing
  simp only [Pi.add_apply, Finsupp.add_apply, Finset.sum_add_distrib]
  rw [← owed_family (fun _ => .reg barS) 1 c sm, ← owed_family (fun k => .dma (drecvS k)) Nd c sm,
    ← owed_family (fun k => .dma (arecvS k)) Na c sm]

theorem credit_bar (c : Dev nD) :
    tallyOn (barC c) (launchCredit (Pipeline.owing O₀) 0 (barC c)) = (tallyAt (barC c) () 15 : CellTallies nD τ sig Unit) := by
  unfold tallyAt; refine congrArg _ (Finsupp.ext fun u => ?_); cases u
  rw [owed_all, Finsupp.single_eq_same, Finset.sum_eq_zero (s := Finset.Ico 1 16) (f := fun k => if SemLoc.reg barS = .dma (drecvS k) then Nd else 0)
    (fun k _ => if_neg (by intro h; cases h)), Finset.sum_eq_zero (s := Finset.Ico 1 16) (f := fun k => if SemLoc.reg barS = .dma (arecvS k) then Na else 0)
    (fun k _ => if_neg (by intro h; cases h)), Finset.sum_congr rfl fun k _ => if_pos rfl, Finset.sum_const, Nat.card_Ico]
  rfl

/-- One debt of a family at a cell of that family, none elsewhere. -/
theorem one_of (f : ℕ → DmaSem sig) (N : ℕ) (s : DmaSem sig) (d : ℕ) (hd : d ∈ Finset.Ico 1 16)
    (h : ∀ k ∈ Finset.Ico 1 16, s = f k ↔ k = d) :
    (∑ k ∈ Finset.Ico 1 16, if (SemLoc.dma s : SemLoc sig) = .dma (f k) then N else 0) = N := by
  rw [Finset.sum_eq_single d (fun k hk hn => if_neg fun e => hn ((h k hk).mp (SemLoc.dma.inj e))) (fun hn => absurd hd hn),
    if_pos (by rw [(h d hd).mpr rfl])]
theorem none_of (f : ℕ → DmaSem sig) (N : ℕ) (s : DmaSem sig) (h : ∀ k, s ≠ f k) :
    (∑ k ∈ Finset.Ico 1 16, if (SemLoc.dma s : SemLoc sig) = .dma (f k) then N else 0) = 0 :=
  Finset.sum_eq_zero fun k _ => if_neg fun e => h k (SemLoc.dma.inj e)

theorem credit_drecv (c : Dev nD) {d : ℕ} (hd : d ∈ Finset.Ico 1 16) :
    tallyOn (dmaC c (drecvS d)) (launchCredit (Pipeline.owing O₀) 0 (dmaC c (drecvS d)))
      = (tallyAt (dmaC c (drecvS d)) () Nd : CellTallies nD τ sig Unit) := by
  have hm := Finset.mem_Ico.mp hd
  unfold tallyAt; refine congrArg _ (Finsupp.ext fun u => ?_); cases u
  rw [owed_all, Finsupp.single_eq_same, Finset.sum_eq_zero (s := Finset.Ico 1 16) (f := fun k => if SemLoc.dma (drecvS d) = .reg barS then 1 else 0)
    (fun k _ => if_neg (by intro h; cases h)),
    one_of drecvS Nd (drecvS d) d hd fun k hk => by
      have := Finset.mem_Ico.mp hk
      rw [Fin.ext_iff, drecvS_val, drecvS_val]; omega,
    none_of arecvS Na (drecvS d) fun k => by rw [Ne, Fin.ext_iff, drecvS_val, arecvS_val]; omega, Nat.zero_add, Nat.add_zero]

theorem credit_arecv (c : Dev nD) {d : ℕ} (hd : d ∈ Finset.Ico 1 16) :
    tallyOn (dmaC c (arecvS d)) (launchCredit (Pipeline.owing O₀) 0 (dmaC c (arecvS d)))
      = (tallyAt (dmaC c (arecvS d)) () Na : CellTallies nD τ sig Unit) := by
  have hm := Finset.mem_Ico.mp hd
  unfold tallyAt; refine congrArg _ (Finsupp.ext fun u => ?_); cases u
  rw [owed_all, Finsupp.single_eq_same, Finset.sum_eq_zero (s := Finset.Ico 1 16) (f := fun k => if SemLoc.dma (arecvS d) = .reg barS then 1 else 0)
    (fun k _ => if_neg (by intro h; cases h)),
    none_of drecvS Nd (arecvS d) fun k => by rw [Ne, Fin.ext_iff, drecvS_val, arecvS_val]; omega,
    one_of arecvS Na (arecvS d) d hd fun k hk => by
      have := Finset.mem_Ico.mp hk
      rw [Fin.ext_iff, arecvS_val, arecvS_val]; omega, Nat.zero_add]

/-- The credits of device `c`. -/
def creds (c : Dev nD) : sProp 𝕄 :=
  iprop(cred (tallyAt (barC c) () 15) ∗ (bigSep (Finset.Ico 1 16) fun d => cred (tallyAt (dmaC c (drecvS d)) () Nd))
    ∗ bigSep (Finset.Ico 1 16) fun d => cred (tallyAt (dmaC c (arecvS d)) () Na))

theorem creds_intro (c : Dev nD) : (Pipeline.launchCred O₀ c : sProp 𝕄) ⊢ creds c := by
  have hi : Function.Injective csem := fun a b h => Fin.ext (semN_inj a.isLt b.isLt h)
  let Φ : SemLoc sig → sProp 𝕄 := fun sm => cred (tallyOn ((c : Thread nD τ), sm) (launchCredit (Pipeline.owing O₀) 0 ((c : Thread nD τ), sm)))
  have h1 : (Pipeline.launchCred O₀ c : sProp 𝕄) ⊢ bigSep Finset.univ fun k : Fin 73 => Φ (csem k) := by
    unfold Pipeline.launchCred
    refine (BI.bigSep_subset (Finset.subset_univ ((Finset.univ : Finset (Fin 73)).map ⟨csem, hi⟩))).trans ?_
    exact Entails.of_eq (BI.bigSep_map (s := Finset.univ) ⟨csem, hi⟩ (Φ := Φ))
  refine h1.trans ?_
  rw [families]
  have hb : Φ (.reg barS) = (cred (tallyAt (barC c) () 15) : sProp 𝕄) := by show (cred _ : sProp 𝕄) = _; rw [credit_bar]
  have hd : bigSep (Finset.Ico 1 16) (fun d => Φ (.dma (drecvS d))) = bigSep (Finset.Ico 1 16) fun d => (cred (tallyAt (dmaC c (drecvS d)) () Nd) : sProp 𝕄) :=
    bigSep_congr fun d h => by show (cred _ : sProp 𝕄) = _; rw [credit_drecv c h]
  have ha : bigSep (Finset.Ico 1 16) (fun d => Φ (.dma (arecvS d))) = bigSep (Finset.Ico 1 16) fun d => (cred (tallyAt (dmaC c (arecvS d)) () Na) : sProp 𝕄) :=
    bigSep_congr fun d h => by show (cred _ : sProp 𝕄) = _; rw [credit_arecv c h]
  unfold creds
  rw [hb, ico_head (show 0 < 16 by omega) (fun d => Φ (.dma (drecvS d))), ico_head (show 0 < 16 by omega) (fun d => Φ (.dma (arecvS d))), hd, ha]
  iintro ⟨H1, -, -, ⟨-, H2⟩, -, ⟨-, H3⟩⟩
  isplitl [H1]; · iexact H1
  isplitl [H2]; · iexact H2
  iexact H3

/-! ## Buffers cut into their pieces, and put together -/

theorem any_whole (c : Dev nD) (b : Ref sig .tc) : (anyOf c (Memref.whole b) : sProp 𝕄) = iprop(∃ f, ((c : Thread nD τ).loc b) ↦{fullShare} f) := by
  unfold anyOf; rw [show (Memref.whole b).view.set = Finset.univ from View.set_whole _]

theorem any_split (c : Dev nD) {sp : Space} {sh : Shape} {e : EltTy} (M : Memref sig .tc sp sh e) {n : ℕ} (r : Fin n → Rect sh)
    (hr : ∀ t a, (r t).stride a = 1) (hd : ∀ t t', t ≠ t' → Disjoint (r t).set (r t').set) (hcov : (Finset.univ : Finset (Fin n)).biUnion (fun t => (r t).set) = Finset.univ) :
    (anyOf c M : sProp 𝕄) ⊢ bigSep Finset.univ fun t => anyOf c (M.slice (r t) (hr t)) := by
  refine .trans (show anyOf c M ⊢ iprop(∃ f, bigSep Finset.univ fun t => owns (c : Thread nD τ) (M.slice (r t) (hr t)) fullShare (fun j => M.view.read (Elt F) f ((r t).emb j))) from ?_) ?_
  · unfold anyOf
    iintro ⟨%f, H⟩
    iexists f
    iapply (Entails.of_eq (pointsTo_rects (c : Thread nD τ) M fullShare r hr hd hcov f)) $$ H
  · exact exists_elim fun f => bigSep_mono fun t _ => anyOf_of_owns c (M.slice (r t) (hr t)) (fun j => M.view.read (Elt F) f ((r t).emb j))

theorem any_join (c : Dev nD) {sp : Space} {sh : Shape} {e : EltTy} (M : Memref sig .tc sp sh e) {n : ℕ} (r : Fin n → Rect sh)
    (hr : ∀ t a, (r t).stride a = 1) (hd : ∀ t t', t ≠ t' → Disjoint (r t).set (r t').set) (hcov : (Finset.univ : Finset (Fin n)).biUnion (fun t => (r t).set) = Finset.univ) :
    (bigSep Finset.univ fun t => anyOf c (M.slice (r t) (hr t))) ⊢ (anyOf c M : sProp 𝕄) := by
  have h1 : ∀ t, (anyOf c (M.slice (r t) (hr t)) : sProp 𝕄) ⊢ iprop(∃ X, owns (c : Thread nD τ) (M.slice (r t) (hr t)) fullShare X) := fun t => by
    unfold anyOf owns
    iintro ⟨%f, H⟩
    iexists _; iexists f
    isplitr
    · ipureintro; rfl
    · iexact H
  refine (bigSep_mono fun t _ => h1 t).trans ((BI.bigSep_exists_pi Finset.univ _).trans (exists_elim fun X => ?_))
  have h2 : ∀ t, (fun j => Rect.glue r hcov X ((r t).emb j)) = X t := fun t => funext fun j => Rect.glue_emb r hcov hd X t j
  refine (Entails.of_eq (bigSep_congr fun t _ => by rw [h2 t])).trans
    ((owns_of_rects (c : Thread nD τ) M fullShare r hr hd hcov (Rect.glue r hcov X)).trans (anyOf_of_owns c M _))

end Cert.KernelIdealProof

end
-- ==== Proof.Ideal.Start.lean ====
/-
# The state before the first operation

What the launch gives device `c` — its cells' positions, tokens, credits, its buffers and shares of `w` — is the
state the body starts from.
-/
module

public import proofs.«01_k».proof.Proof.Ideal.Open

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces -/

theorem slots_pieces (c : Dev nD) : (anyOf c slots : sProp 𝕄) ⊢ bigSep (Finset.Ico 0 8) fun t => anyOf c (slot3 t) := by
  rw [← fin_ico 8 (fun t => (anyOf c (slot3 t) : sProp 𝕄))]
  exact any_split c slots (fun t : Fin 8 => slotR t.val) (fun _ _ => rfl) slot_disj slot_cover
theorem slots_whole (c : Dev nD) : (bigSep (Finset.Ico 0 8) fun t => anyOf c (slot3 t)) ⊢ (anyOf c slots : sProp 𝕄) := by
  rw [← fin_ico 8 (fun t => (anyOf c (slot3 t) : sProp 𝕄))]
  exact any_join c slots (fun t : Fin 8 => slotR t.val) (fun _ _ => rfl) slot_disj slot_cover

theorem ys_pieces (c : Dev nD) : (anyOf c ysAll : sProp 𝕄) ⊢ bigSep (Finset.Ico 0 16) fun t => anyOf c (ysM t) := by
  rw [← fin_ico 16 (fun t => (anyOf c (ysM t) : sProp 𝕄))]
  exact any_split c ysAll (fun t : Fin 16 => ysR t.val) (fun _ _ => rfl) ys_disj ys_cover
theorem ys_whole (c : Dev nD) : (bigSep (Finset.Ico 0 16) fun t => anyOf c (ysM t)) ⊢ (anyOf c ysAll : sProp 𝕄) := by
  rw [← fin_ico 16 (fun t => (anyOf c (ysM t) : sProp 𝕄))]
  exact any_join c ysAll (fun t : Fin 16 => ysR t.val) (fun _ _ => rfl) ys_disj ys_cover

theorem peer_zero (c : Dev nD) : peer c 0 = c := Fin.ext (by have : c.val < 16 := c.isLt; simp only [peer_val]; omega)

/-- The device's own landing rows, and its peers'. -/
theorem rcv_deal (c : Dev nD) : (anyOf c rcvAll : sProp 𝕄)
    ⊢ iprop(anyOf c (rcvM c.val) ∗ bigSep (Finset.Ico 1 16) fun d => anyOf c (rcvM (peer c d).val)) := by
  refine (any_split c rcvAll (fun s : Fin 16 => rcvR s.val) (fun _ _ => rfl) rcv_disj rcv_cover).trans (Entails.of_eq ?_)
  rw [show (bigSep Finset.univ fun s : Fin 16 => (anyOf c (rcvAll.slice (rcvR s.val) (fun _ => rfl)) : sProp 𝕄))
    = bigSep (Finset.Ico 0 16) fun d => anyOf c (rcvM (peer c d).val) from peers_all c fun s => (anyOf c (rcvM s) : sProp 𝕄),
    ico_head (show 0 < 16 by omega), peer_zero]

theorem any_am (c : Dev nD) (d : ℕ) : (anyOf c (amM d) : sProp 𝕄) = anyOf c (am3 d) := by
  unfold anyOf; rw [show (amM d).view.set = (am3 d).view.set from View.set_reshape _ _]

/-- The device's own landing slab, and the others by their senders' distances. -/
theorem am_deal (c : Dev nD) : (anyOf c amAll : sProp 𝕄)
    ⊢ iprop(anyOf c (am3 0) ∗ bigSep (Finset.Ico 1 16) fun d => anyOf c (amM (16 - d))) := by
  refine (any_split c amAll (fun s : Fin 16 => amR s.val) (fun _ _ => rfl) am_disj am_cover).trans (Entails.of_eq ?_)
  simp only [any_am]
  rw [← ico_reflect (fun d => (anyOf c (am3 d) : sProp 𝕄)), ← ico_head (show 0 < 16 by omega) (fun d => (anyOf c (am3 d) : sProp 𝕄))]
  exact fin_ico 16 fun d => (anyOf c (am3 d) : sProp 𝕄)

/-- Read shares of the blocks of `w`, one for each copy. -/
def wShares (c : Dev nD) : sProp 𝕄 :=
  bigSep (Finset.Ico 0 16) fun t =>
    ((wM (c.val + t + 1)).view.loc (c : Thread nD τ) ↦[(wM (c.val + t + 1)).view.set]{Transfers.shareTokN fullShare t} wArr m c)

/-- The array `w` cut into those and a rest that stays behind. -/
theorem w_shares (c : Dev nD) :
    (((c : Thread nD τ).loc main_arg1) ↦{fullShare} m ((c : Thread nD τ).loc main_arg1) : sProp 𝕄)
      ⊢ iprop((((c : Thread nD τ).loc main_arg1) ↦{Transfers.shareDrop fullShare 16} m ((c : Thread nD τ).loc main_arg1)) ∗ wShares m c) := by
  refine (Transfers.pointsTo_toks_range (nD := nD) (τ := τ) (sig := sig) (Ix := Unit) (Val := Elt F) (Name := ℕ) (U := UU) (Lvl := ℕ)
    (ℓ := (c : Thread nD τ).loc main_arg1) (S := Finset.univ) (f := m ((c : Thread nD τ).loc main_arg1)) fullShare 16).1.trans (sep_mono_right ?_)
  unfold wShares
  rw [show Finset.Ico 0 16 = Finset.range 16 from (Finset.range_eq_Ico 16).symm]
  exact bigSep_mono fun t _ => (pointsTo_split_subset (Finset.subset_univ _)).1.trans sep_elim_left

/-! ## Tokens and positions, family by family -/

theorem toks_families (c : Dev nD) : (bigSep (Finset.Ico 0 16) fun d => (payTok c d : sProp 𝕄))
    ⊢ iprop((bigSep (Finset.Ico 1 16) fun d => dutyTok ER (barC (peer c d)) 0 (16 - d))
      ∗ (bigSep (Finset.Ico 0 16) fun t => dutyTok ER (dmaC c (wS t)) (t / 8) 0)
      ∗ (bigSep (Finset.Ico 1 16) fun d => iprop(dutyTok ER (dmaC c (dsendS d)) 0 0 ∗ dutyTok ER (dmaC (peer c d) (drecvS d)) 0 0))
      ∗ bigSep (Finset.Ico 1 16) fun d => iprop(dutyTok ER (dmaC c (asendS d)) 0 0 ∗ dutyTok ER (dmaC (peer c d) (arecvS d)) 0 0)) := by
  have hb : (bigSep (Finset.Ico 1 16) fun d => (dutyTok ER (barC (peer c d)) 0 ((16 - d) % 16) : sProp 𝕄))
      = bigSep (Finset.Ico 1 16) fun d => dutyTok ER (barC (peer c d)) 0 (16 - d) := bigSep_congr fun d h => by
    have := Finset.mem_Ico.mp h
    rw [Nat.mod_eq_of_lt (show 16 - d < 16 by omega)]
  unfold payTok
  simp only [bigSep_sep']
  rw [ico_head (show 0 < 16 by omega) (fun d => (dutyTok ER (barC (peer c d)) 0 ((16 - d) % 16) : sProp 𝕄)), hb,
    ico_head (show 0 < 16 by omega) (fun d => (dutyTok ER (dmaC c (dsendS d)) 0 0 : sProp 𝕄)),
    ico_head (show 0 < 16 by omega) (fun d => (dutyTok ER (dmaC (peer c d) (drecvS d)) 0 0 : sProp 𝕄)),
    ico_head (show 0 < 16 by omega) (fun d => (dutyTok ER (dmaC c (asendS d)) 0 0 : sProp 𝕄)),
    ico_head (show 0 < 16 by omega) (fun d => (dutyTok ER (dmaC (peer c d) (arecvS d)) 0 0 : sProp 𝕄))]
  iintro ⟨⟨-, H1⟩, H2, ⟨-, H3⟩, ⟨-, H4⟩, ⟨-, H5⟩, ⟨-, H6⟩⟩
  isplitl [H1]; · iexact H1
  isplitl [H2]; · iexact H2
  isplitl [H3 H4]
  · isplitl [H3]; · iexact H3
    iexact H4
  isplitl [H5]; · iexact H5
  iexact H6

theorem pos_families (c : Dev nD) : (bigSep Finset.univ fun k : Fin 73 => (atPos ER (kcell (c, k)) 0 ∅ 0 : sProp 𝕄))
    ⊢ iprop(atPos ER (barC c) 0 ∅ 0 ∗ (bigSep (Finset.Ico 0 8) fun t => atPos ER (dmaC c (wS t)) (t / 8) ∅ 0)
      ∗ (bigSep (Finset.Ico 1 16) fun d => atPos ER (dmaC c (dsendS d)) 0 ∅ 0) ∗ (bigSep (Finset.Ico 1 16) fun d => atPos ER (dmaC c (drecvS d)) 0 ∅ 0)
      ∗ (bigSep (Finset.Ico 1 16) fun d => atPos ER (dmaC c (asendS d)) 0 ∅ 0) ∗ (bigSep (Finset.Ico 1 16) fun d => atPos ER (dmaC c (arecvS d)) 0 ∅ 0)
      ∗ cIdle c) := by
  have hw : (bigSep (Finset.Ico 0 8) fun t => (atPos ER (dmaC c (wS t)) 0 ∅ 0 : sProp 𝕄))
      = bigSep (Finset.Ico 0 8) fun t => atPos ER (dmaC c (wS t)) (t / 8) ∅ 0 := bigSep_congr fun t h => by
    rw [Nat.div_eq_of_lt (Finset.mem_Ico.mp h).2]
  rw [show (bigSep Finset.univ fun k : Fin 73 => (atPos ER (kcell (c, k)) 0 ∅ 0 : sProp 𝕄)) = _ from
    families fun sm => (atPos ER ((c : Thread nD τ), sm) 0 ∅ 0 : sProp 𝕄), hw,
    ico_head (show 0 < 16 by omega) (fun d => (atPos ER (dmaC c (dsendS d)) 0 ∅ 0 : sProp 𝕄)),
    ico_head (show 0 < 16 by omega) (fun d => (atPos ER (dmaC c (drecvS d)) 0 ∅ 0 : sProp 𝕄)),
    ico_head (show 0 < 16 by omega) (fun d => (atPos ER (dmaC c (asendS d)) 0 ∅ 0 : sProp 𝕄)),
    ico_head (show 0 < 16 by omega) (fun d => (atPos ER (dmaC c (arecvS d)) 0 ∅ 0 : sProp 𝕄))]
  unfold cIdle
  iintro ⟨H1, H2, ⟨I1, H3⟩, ⟨I2, H4⟩, ⟨I3, H5⟩, ⟨I4, H6⟩⟩
  isplitl [H1]; · iexact H1
  isplitl [H2]; · iexact H2
  isplitl [H3]; · iexact H3
  isplitl [H4]; · iexact H4
  isplitl [H5]; · iexact H5
  isplitl [H6]; · iexact H6
  isplitl [I1]; · iexact I1
  isplitl [I2]; · iexact I2
  isplitl [I3]; · iexact I3
  iexact I4

/-! ## The components before the first operation -/

theorem reached_w (c : Dev nD) : env (F := F) m ⊢ bigSep (Finset.Ico 0 8) fun t => reached ER (dmaC c (wS t)) (t / 8) := by
  have h : ∀ t ∈ Finset.Ico 0 8, iprop(env (F := F) m ∗ emp) ⊢ reached ER (dmaC c (wS t)) (t / 8) := fun t ht => by
    rw [Nat.div_eq_of_lt (Finset.mem_Ico.mp ht).2]
    have hk := env_dma (F := F) m c (wS t) (by rw [wS_val]; omega)
    unfold knows at hk
    exact sep_elim_left.trans (hk.trans sep_elim_right)
  refine .trans ?_ (bigSep_with h)
  iintro H
  isplitl
  · iexact H
  · iapply (BI.bigSep_of_persistent (Finset.Ico 0 8) (iprop(emp) : sProp 𝕄)); iempintro

theorem copy_start (c : Dev nD) :
    iprop(env m ∗ wShares m c ∗ (bigSep (Finset.Ico 0 16) fun t => dutyTok ER (dmaC c (wS t)) (t / 8) 0) ∗ anyOf c slots
      ∗ bigSep (Finset.Ico 0 8) fun t => atPos ER (dmaC c (wS t)) (t / 8) ∅ 0) ⊢ cCopy m c 0 0 := by
  unfold cCopy
  rw [ico_none (show 0 ≤ 0 - 8 by omega), ico_none (show 0 ≤ 0 by omega), bigSep_sep']
  iintro ⟨HE, HW, HT, HS, HP⟩
  isplitl [HW HT]
  · isplitl [HW]
    · unfold wShares; iexact HW
    · iexact HT
  isplitl [HS]; · iapply (slots_pieces c) $$ HS
  isplitr; · iempintro
  isplitl [HP]; · iexact HP
  isplitl [HE]; · iapply (reached_w m c) $$ HE
  iempintro

theorem prod_start (c : Dev nD) :
    iprop(anyOf c ysAll ∗ (bigSep (Finset.Ico 1 16) fun d => iprop(dutyTok ER (dmaC c (dsendS d)) 0 0 ∗ dutyTok ER (dmaC (peer c d) (drecvS d)) 0 0))
      ∗ bigSep (Finset.Ico 1 16) fun d => atPos ER (dmaC c (dsendS d)) 0 ∅ 0) ⊢ cProd m c 0 0 0 := by
  unfold cProd
  rw [ico_none (show 0 ≤ 0 by omega), ico_none (show 0 + 1 ≤ 0 + 1 by omega), ico_none (show 0 + 1 ≤ 1 by omega)]
  iintro ⟨HY, HT, HP⟩
  isplitl [HY]; · iapply (ys_pieces c) $$ HY
  isplitr; · iempintro
  isplitl [HT]; · iexact HT
  isplitr; · iempintro
  isplitl [HP]; · iexact HP
  iempintro

theorem max_start (c : Dev nD) :
    iprop(anyOf c amSrc ∗ (bigSep (Finset.Ico 1 16) fun d => iprop(dutyTok ER (dmaC c (asendS d)) 0 0 ∗ dutyTok ER (dmaC (peer c d) (arecvS d)) 0 0))
      ∗ bigSep (Finset.Ico 1 16) fun d => atPos ER (dmaC c (asendS d)) 0 ∅ 0) ⊢ cMax m c 0 0 0 := by
  unfold cMax
  rw [if_pos rfl, ico_none (show 0 + 1 ≤ 0 + 1 by omega), ico_none (show 0 + 1 ≤ 1 by omega), ico_none (show 0 + 1 ≤ 1 by omega)]
  iintro ⟨HY, HT, HP⟩
  isplitl [HY]; · iexact HY
  isplitl [HT]; · iexact HT
  isplitr; · iempintro
  isplitl [HP]; · iexact HP
  isplitr; · iempintro
  iempintro

theorem recv_start (c : Dev nD) :
    iprop((bigSep (Finset.Ico 1 16) fun d => cred (tallyAt (dmaC c (drecvS d)) () Nd)) ∗ (bigSep (Finset.Ico 1 16) fun d => atPos ER (dmaC c (drecvS d)) 0 ∅ 0)
      ∗ anyOf c (rcvM c.val)) ⊢ cRecv m c 0 0 := by
  unfold cRecv
  rw [if_pos rfl, ico_none (show 0 + 1 ≤ 1 by omega), ico_none (show 0 + 1 ≤ 1 by omega), bigSep_sep']
  iintro ⟨H1, H2, H3⟩
  isplitl [H1 H2]
  · isplitl [H1]; · iexact H1
    iexact H2
  isplitr; · iempintro
  isplitr; · iempintro
  iexact H3

theorem maxr_start (c : Dev nD) :
    iprop((bigSep (Finset.Ico 1 16) fun d => cred (tallyAt (dmaC c (arecvS d)) () Na)) ∗ (bigSep (Finset.Ico 1 16) fun d => atPos ER (dmaC c (arecvS d)) 0 ∅ 0)
      ∗ anyOf c (am3 0)) ⊢ cMaxR m c 0 0 := by
  unfold cMaxR
  rw [if_pos rfl, ico_none (show 0 + 1 ≤ 1 by omega), ico_none (show 0 + 1 ≤ 1 by omega), bigSep_sep']
  iintro ⟨H1, H2, H3⟩
  isplitl [H1 H2]
  · isplitl [H1]; · iexact H1
    iexact H2
  isplitr; · iempintro
  isplitr; · iempintro
  iexact H3

theorem sig_start (c : Dev nD) :
    iprop((bigSep (Finset.Ico 1 16) fun d => dutyTok ER (barC (peer c d)) 0 (16 - d)) ∗ (bigSep (Finset.Ico 1 16) fun d => anyOf c (rcvM (peer c d).val))
      ∗ bigSep (Finset.Ico 1 16) fun d => anyOf c (amM (16 - d))) ⊢ (cSig c 0 : sProp 𝕄) := by
  unfold cSig
  rw [bigSep_sep', bigSep_sep']

/-- What the launch leaves device `c` with before its body runs, besides the buffers. -/
def start (c : Dev nD) : sProp 𝕄 := iprop(env m ∗ mine c ∗ creds c ∗ wShares m c)
/-- The scratch buffers, with whatever they hold. -/
def scratch (c : Dev nD) : sProp 𝕄 := iprop(anyOf c slots ∗ anyOf c ysAll ∗ anyOf c rcvAll ∗ anyOf c amSrc ∗ anyOf c amAll)

/-- Everything together is the state before the first operation. -/
theorem start_state (c : Dev nD) :
    iprop(start m c ∗ scratch c ∗ cOwe c 0 0 0 ∗ cIn m c ∗ cOut m c 0) ⊢ St m c 0 0 0 0 0 0 0 0 0 0 0 0 0 0 0 := by
  unfold start scratch mine creds St
  iintro ⟨⟨#HE, ⟨HP, HT⟩, ⟨C1, C2, C3⟩, HW⟩, ⟨B1, B2, B3, B4, B5⟩, HO, HI, HZ⟩
  ihave HT := (toks_families c) $$ HT
  icases HT with ⟨T1, T2, T3, T4⟩
  ihave HP := (pos_families c) $$ HP
  icases HP with ⟨P1, P2, P3, P4, P5, P6, P7⟩
  ihave HR := (rcv_deal c) $$ B3
  icases HR with ⟨R1, R2⟩
  ihave HM := (am_deal c) $$ B5
  icases HM with ⟨M1, M2⟩
  isplitr; · iexact HE
  isplitl [HO]; · iexact HO
  isplitl [T1 R2 M2]
  · iapply (sig_start c)
    isplitl [T1]; · iexact T1
    isplitl [R2]; · iexact R2
    iexact M2
  isplitl [C1 P1]
  · iapply (Entails.of_eq (show _ = cBar c 0 from (if_pos rfl).symm))
    isplitl [C1]; · iexact C1
    iexact P1
  isplitr
  · iapply (Entails.of_eq (show _ = cLand c 0 0 0 from (if_pos rfl).symm))
    iempintro
  isplitl [HW T2 B1 P2]
  · iapply (copy_start m c)
    isplitr; · iexact HE
    isplitl [HW]; · iexact HW
    isplitl [T2]; · iexact T2
    isplitl [B1]; · iexact B1
    iexact P2
  isplitl [B2 T3 P3]
  · iapply (prod_start m c)
    isplitl [B2]; · iexact B2
    isplitl [T3]; · iexact T3
    iexact P3
  isplitl [C2 P4 R1]
  · iapply (recv_start m c)
    isplitl [C2]; · iexact C2
    isplitl [P4]; · iexact P4
    iexact R1
  isplitl [B4 T4 P5]
  · iapply (max_start m c)
    isplitl [B4]; · iexact B4
    isplitl [T4]; · iexact T4
    iexact P5
  isplitl [C3 P6 M1]
  · iapply (maxr_start m c)
    isplitl [C3]; · iexact C3
    isplitl [P6]; · iexact P6
    iexact M1
  isplitl [P7]; · iexact P7
  isplitl [HI]; · iexact HI
  iexact HZ

end Cert.KernelIdealProof

end
-- ==== Proof.Ideal.End.lean ====
/-
# The state after the last operation

All the device's cells are closed, which leaves their counters at zero, and the scratch buffers are whole again.
-/
module

public import proofs.«01_k».proof.Proof.Ideal.Start

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing the cells -/

theorem close_cell {g : GSem nD τ sig} {R : ℕ} (hk : env (F := F) m ⊢ knows m g) (hR : ∀ r, R ≤ r → (Rd (F := F) m).duties g r = ∅) :
    iprop(env (F := F) m ∗ atPos ER g R ∅ 0) ⊢ |={Set.univ}=> semVal g 0 := by
  have hc (κ : ℕ) := Rounds.cell_close ER (Rd (F := F) m) (g := g) (Set.mem_univ κ) (fun h => h) (R := R) hR
  iintro ⟨HE, HP⟩
  ihave HK := hk $$ HE
  unfold knows
  icases HK with ⟨⟨%κ, HI⟩, -⟩
  iapply (hc κ)
  isplitl [HI] <;> iassumption

/-- A range of cells of one family. -/
theorem close_range (c : Dev nD) (f : ℕ → DmaSem sig) (R : ℕ → ℕ) (S : Finset ℕ) (h2 : ∀ d, 2 ≤ (f d).val)
    (hR : ∀ d ∈ S, ∀ r, R d ≤ r → dmaDuties (f d).val r = ∅) :
    iprop(env (F := F) m ∗ bigSep S fun d => atPos ER (dmaC c (f d)) (R d) ∅ 0) ⊢ |={Set.univ}=> bigSep S fun d => semVal (dmaC c (f d)) 0 :=
  (bigSep_with (R := env (F := F) m) fun d hd => close_cell m (env_dma m c (f d) (h2 d)) fun r hr => hR d hd r hr).trans (bigSep_fupd _ _)

theorem duties_none {n r : ℕ} (hn : 10 ≤ n) (h : (n - 10) % 16 = 0 ∨ 1 ≤ r) : dmaDuties n r = ∅ := by
  unfold dmaDuties
  rw [if_neg (by omega), if_neg (by omega)]

/-- A family with the first cell not used. -/
theorem close_family (c : Dev nD) (f : ℕ → DmaSem sig) (b : ℕ) (hb : 10 ≤ b) (hb' : (b - 10) % 16 = 0) (hf : ∀ d, (f d).val = b + d % 16) :
    iprop(env (F := F) m ∗ atPos ER (dmaC c (f 0)) 0 ∅ 0 ∗ bigSep (Finset.Ico 1 16) fun d => atPos ER (dmaC c (f d)) 1 ∅ 0)
      ⊢ |={Set.univ}=> bigSep (Finset.Ico 0 16) fun d => semVal (dmaC c (f d)) 0 := by
  have h1 := close_cell (F := F) m (R := 0) (env_dma m c (f 0) (by rw [hf]; omega)) fun r _ => duties_none (n := (f 0).val) (by rw [hf]; omega) (Or.inl (by rw [hf]; omega))
  have h2 := close_range (F := F) m c f (fun _ => 1) (Finset.Ico 1 16) (fun d => by rw [hf]; omega) fun d _ r hr =>
    duties_none (n := (f d).val) (by rw [hf]; omega) (Or.inr hr)
  rw [ico_head (show 0 < 16 by omega)]
  iintro ⟨#HE, H0, H1⟩
  imod h1 $$ [H0] with V0
  · isplitr; · iexact HE
    iexact H0
  imod h2 $$ [H1] with V1
  · isplitr; · iexact HE
    iexact H1
  imodintro
  isplitl [V0] <;> iassumption

theorem wS_again (i : ℕ) : wS (16 + i) = wS i := Fin.ext (by rw [wS_val, wS_val]; omega)

theorem close_w (c : Dev nD) :
    iprop(env (F := F) m ∗ bigSep (Finset.Ico 16 (16 + 8)) fun t => atPos ER (dmaC c (wS t)) (t / 8) ∅ 0)
      ⊢ |={Set.univ}=> bigSep (Finset.Ico 0 8) fun t => semVal (dmaC c (wS t)) 0 := by
  have h := close_range (F := F) m c wS (fun t => t / 8) (Finset.Ico 16 (16 + 8)) (fun d => by rw [wS_val]; omega) fun d hd r hr => by
    have := Finset.mem_Ico.mp hd
    unfold dmaDuties; rw [wS_val, if_pos (by omega), if_neg (by omega)]
  rw [ico_shift 16 8 (fun t => (semVal (dmaC c (wS t)) 0 : sProp 𝕄)), bigSep_congr (s := Finset.Ico 0 8) fun t _ => by rw [wS_again t]] at h
  exact h

/-- Every cell of the device, closed: all its counters are zero. -/
theorem close_all (c : Dev nD) :
    iprop(env (F := F) m ∗ atPos ER (barC c) 1 ∅ 0 ∗ (bigSep (Finset.Ico 16 (16 + 8)) fun t => atPos ER (dmaC c (wS t)) (t / 8) ∅ 0)
      ∗ (bigSep (Finset.Ico 1 16) fun d => atPos ER (dmaC c (dsendS d)) 1 ∅ 0) ∗ (bigSep (Finset.Ico 1 16) fun d => atPos ER (dmaC c (drecvS d)) 1 ∅ 0)
      ∗ (bigSep (Finset.Ico 1 16) fun d => atPos ER (dmaC c (asendS d)) 1 ∅ 0) ∗ (bigSep (Finset.Ico 1 16) fun d => atPos ER (dmaC c (arecvS d)) 1 ∅ 0)
      ∗ cIdle c)
      ⊢ |={Set.univ}=> iprop(unscopedSems0 c ∗ Pipeline.ownSems0 (Ix := Unit) (Name := ℕ) (U := UU) (Lvl := ℕ) (Val := Elt F) (τ := τ) osem c) := by
  have hb := close_cell (F := F) m (R := 1) (env_bar m c) fun r hr => if_neg (show ¬ r = 0 by omega)
  have h1 := close_family (F := F) m c dsendS 10 (by omega) (by omega) dsendS_val
  have h2 := close_family (F := F) m c drecvS 26 (by omega) (by omega) drecvS_val
  have h3 := close_family (F := F) m c asendS 42 (by omega) (by omega) asendS_val
  have h4 := close_family (F := F) m c arecvS 58 (by omega) (by omega) arecvS_val
  rw [unscopedSems0_eq, ownSems0_eq, show (bigSep (Finset.Ico 0 72) fun n => (semVal ((c : Thread nD τ), semN n) 0 : sProp 𝕄)) = _ from
    ico_families fun sm => (semVal ((c : Thread nD τ), sm) 0 : sProp 𝕄)]
  unfold cIdle
  iintro ⟨#HE, PB, PW, P1, P2, P3, P4, I1, I2, I3, I4⟩
  imod hb $$ [PB] with VB
  · isplitr; · iexact HE
    iexact PB
  imod (close_w m c) $$ [PW] with VW
  · isplitr; · iexact HE
    iexact PW
  imod h1 $$ [I1 P1] with V1
  · isplitr; · iexact HE
    isplitl [I1] <;> iassumption
  imod h2 $$ [I2 P2] with V2
  · isplitr; · iexact HE
    isplitl [I2] <;> iassumption
  imod h3 $$ [I3 P3] with V3
  · isplitr; · iexact HE
    isplitl [I3] <;> iassumption
  imod h4 $$ [I4 P4] with V4
  · isplitr; · iexact HE
    isplitl [I4] <;> iassumption
  imodintro
  isplitl [VB]; · iexact VB
  isplitl [VW]; · iexact VW
  isplitl [V1]; · iexact V1
  isplitl [V2]; · iexact V2
  isplitl [V3]; · iexact V3
  iexact V4

/-! ## The buffers back -/

theorem slot_again (i : ℕ) : slot3 (8 + i) = slot3 i := by
  have h : ∀ (a b : ℕ) (_ : a = b) (ha : ∀ k, (![a, 0, 0] : Fin 3 → Nat) k + S1x4096x128.size k ≤ S8x4096x128.size k)
      (hb : ∀ k, (![b, 0, 0] : Fin 3 → Nat) k + S1x4096x128.size k ≤ S8x4096x128.size k),
      slots.slice (Rect.unit (s := S8x4096x128) ![a, 0, 0] S1x4096x128.size ha) (fun _ => rfl)
        = slots.slice (Rect.unit (s := S8x4096x128) ![b, 0, 0] S1x4096x128.size hb) (fun _ => rfl) := by
    rintro a _ rfl _ _; rfl
  exact h _ _ (Nat.add_mod_left 8 i) _ _

theorem slots_back (c : Dev nD) : (bigSep (Finset.Ico (16 - 8) 16) fun t => wPay m c t) ⊢ (anyOf c slots : sProp 𝕄) := by
  refine .trans ?_ (slots_whole c)
  rw [show (16 - 8 : ℕ) = 8 from rfl, show (16 : ℕ) = 8 + 8 from rfl, ico_shift 8 8]
  exact bigSep_mono fun t _ => by
    rw [← slot_again t]; exact anyOf_of_owns c (slot3 (8 + t)) (wld m c (8 + t))

theorem ys_back (c : Dev nD) : iprop((bigSep (Finset.Ico 15 16) fun t => anyOf c (ysM t)) ∗ bigSep (Finset.Ico 1 16) fun d => dsPay c d) ⊢ (anyOf c ysAll : sProp 𝕄) := by
  have e : bigSep (Finset.Ico 1 16) (fun d => (dsPay c d : sProp 𝕄)) = bigSep (Finset.Ico 0 15) fun t => anyOf c (ysM t) :=
    (show _ = _ from ico_shift 1 15 fun d => (dsPay c d : sProp 𝕄)).trans (bigSep_congr fun i _ => by
      unfold dsPay; rw [Nat.add_sub_cancel_left])
  rw [e, sep_swap, ← ico_split (show 0 ≤ 15 by omega) (show 15 ≤ 16 by omega) fun t => (anyOf c (ysM t) : sProp 𝕄)]
  exact ys_whole c

theorem amsrc_back (c : Dev nD) :
    iprop((amSrc.view.loc (c : Thread nD τ) ↦[amSrc.view.set]{Transfers.shareDrop fullShare 15} amx m c)
      ∗ bigSep (Finset.Ico 1 16) fun d => asPay m c d) ⊢ (anyOf c amSrc : sProp 𝕄) := by
  refine (Entails.of_eq (am_split c (amx m c)).symm).trans ?_
  unfold anyOf
  iintro H; iexists _; iexact H

/-- What the body leaves of device `c` besides its arrays: all counters zero, and the scratch buffers. -/
def finish (c : Dev nD) : sProp 𝕄 :=
  iprop(unscopedSems0 c ∗ Pipeline.ownSems0 (Ix := Unit) (Name := ℕ) (U := UU) (Lvl := ℕ) (Val := Elt F) (τ := τ) osem c ∗ scratch c)

theorem end_state (c : Dev nD) :
    St m c 15 1 16 16 15 15 15 1 1 1 15 15 15 15 1 ⊢ |={Set.univ}=> iprop(finish c ∗ cOwe c 15 15 15 ∗ cIn m c ∗ cOut m c 1) := by
  unfold St finish scratch
  rw [show cBar c 1 = (atPos ER (barC c) 1 ∅ 0 : sProp 𝕄) from if_neg (by decide)]
  unfold cCopy cProd cRecv cMax cMaxR
  rw [if_neg (show ¬ (1 : ℕ) = 0 by decide), if_neg (show ¬ (1 : ℕ) = 0 by decide), if_neg (show ¬ (1 : ℕ) = 0 by decide),
    bigSep_sep' (Finset.Ico 1 (15 + 1)) (fun d => (dsPay c d : sProp 𝕄))]
  iintro ⟨HE, HO, -, PB, -, ⟨-, -, W, PW, -, -⟩, ⟨Y1, -, -, -, -, Y2, P1⟩, ⟨-, R1, P2, R2⟩, ⟨⟨M1, -⟩, -, -, -, M2, P3⟩, ⟨-, A1, P4, A2⟩, I, HI, HZ⟩
  imod (close_all m c) $$ [HE PB PW P1 P2 P3 P4 I] with V
  · isplitl [HE]; · iexact HE
    isplitl [PB]; · iexact PB
    isplitl [PW]; · iexact PW
    isplitl [P1]; · iexact P1
    isplitl [P2]; · iexact P2
    isplitl [P3]; · iexact P3
    isplitl [P4]; · iexact P4
    iexact I
  imodintro
  icases V with ⟨V1, V2⟩
  isplitr [HO HI HZ]
  · isplitl [V1]; · iexact V1
    isplitl [V2]; · iexact V2
    isplitl [W]; · iapply (slots_back m c) $$ W
    isplitl [Y1 Y2]
    · iapply (ys_back c)
      isplitl [Y1]; · iexact Y1
      iexact Y2
    isplitl [R1 R2]
    · iapply ((rcv_join m c).trans (anyOf_of_owns c rcvAll (rcvFull m c)))
      isplitl [R1]; · iexact R1
      iexact R2
    isplitl [M1 M2]
    · iapply (amsrc_back m c)
      isplitl [M1]; · iexact M1
      iexact M2
    iapply ((am_join m c).trans (anyOf_of_owns c amAll (amFull m c)))
    isplitl [A1]; · iexact A1
    iexact A2
  isplitl [HO]; · iexact HO
  isplitl [HI]; · iexact HI
  iexact HZ

end Cert.KernelIdealProof

end
-- ==== Proof.Ideal.Launch.lean ====
/-
# The run of the whole program

The body on each device, from `Start` through `Body` to `End`, under the launch of all sixteen.
-/
module

public import proofs.«01_k».proof.Proof.Ideal.Body
public import proofs.«01_k».proof.Proof.Ideal.End
public import Idealize.ShloMosaic.Lib.Pipeline.CollectiveSegs
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory at the launch: any contents, every counter zero, any generator registers. -/
def s₀ : MemSt nD τ sig (Elt F) := ⟨m, fun _ => 0, ρ⟩

/-! ## The body as the pipeline calls it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; simp only [t₀, Fin.mk.injEq]; omega

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outv m c
  Φ t := match t with
    | ⟨0, _⟩ => iprop(start m c ∗ scratch c)
    | ⟨_ + 1, _⟩ => finish c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratch c) ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(finish c ∗ (dats m ρ 0 c).owesAt () t₀.succ ∗ stg c cc0_stg0_0 (xstg m c) ∗ stg c cc0_stg1_0 (outv m c))

theorem pre_state (c : Dev nD) : bodyPre m ρ c ⊢ St₀ m c := by
  refine .trans ?_ (start_state m c)
  unfold bodyPre
  iintro ⟨⟨HS, HB⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, -, HO⟩
  isplitl [HS]; · iexact HS
  isplitl [HB]; · iexact HB
  isplitl [HO]
  · unfold cOwe
    iexists W
    iexact HO
  isplitl [Hx]
  · unfold cIn; iexact Hx
  iapply (Entails.of_eq (show _ = cOut m c 0 from (if_pos rfl).symm))
  iexists _; iexact Hout

theorem post_state (c : Dev nD) : St₁ m c ⊢ |={Set.univ}=> bodyPost m ρ c := by
  have h : iprop(finish c ∗ cOwe c 15 15 15 ∗ cIn m c ∗ cOut m c 1) ⊢ bodyPost m ρ c := by
    unfold bodyPost cOwe cIn
    rw [show cOut m c 1 = ((((c : Thread nD τ).loc cc0_stg1_0) ↦{fullShare} outv m c) : sProp 𝕄) from if_neg (by decide)]
    unfold Dat.owesAt Pipeline.owesWithin
    rw [show (dats m ρ 0 c).owed t₀.succ = owing c 15 15 15 from (owing_done c).symm]
    iintro ⟨HF, ⟨%W, HO⟩, HI, HZ⟩
    isplitl [HF]; · iexact HF
    isplitl [HO]
    · iexists W
      isplitr; · ipureintro; exact fun _ _ => Or.inl trivial
      iexact HO
    isplitl [HI]
    · iexists _; isplitr; · (ipureintro; rfl)
      iexact HI
    iexists _; isplitr; · (ipureintro; rfl)
    iexact HZ
  exact (end_state m c).trans (BI.fupd_mono h)

set_option maxRecDepth 40000 in
/-- What the pipeline asks of the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (cc0_body xM (Memref.isWhole_whole _) wAll (Memref.isWhole_whole _) oM (Memref.isWhole_whole _) slots (Memref.isWhole_whole _)
    ysAll (Memref.isWhole_whole _) rcvAll (Memref.isWhole_whole _) amSrc (Memref.isWhole_whole _) amAll (Memref.isWhole_whole _)
    cc0_scratch5 cc0_scratch6 cc0_scratch7 cc0_scratch8 cc0_scratch9) (fun _ => bodyPost m ρ c)
  exact (pre_state m ρ c).trans ((body m (Q := fun _ => iprop(|={Set.univ}=> bodyPost m ρ c)) (post_state m ρ c)).trans (wp_fupd _ _ _ _ _))

/-! ## The launch -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    have h (a n g : ℕ) := mayWait_low (F := F) c ((cfg0.win w).sem s) a n g (by fin_cases w <;> fin_cases s <;> rfl)
    rcases t with ⟨_ | k, ht⟩
    · exact h 0 0 0
    · have := h 15 15 15; rw [owing_done] at this; exact this

/-- What stays of `w`'s array outside the body. -/
def wRest (c : Dev nD) : sProp 𝕄 :=
  (((c : Thread nD τ).loc main_arg1) ↦{Transfers.shareDrop fullShare 16} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ wRest m c) := by
  have hw : (Pipeline.unscopedRestP Pipeline.Prefetch.none cfg0.spec c (fun b => m ((c : Thread nD τ).loc b)) : sProp 𝕄)
      = (((c : Thread nD τ).loc main_arg1) ↦{fullShare} m ((c : Thread nD τ).loc main_arg1)) :=
    (Pipeline.unscopedRestP_none _ c _).trans (unscopedRest0_eq c fun b => m ((c : Thread nD τ).loc b))
  rw [hw]
  unfold start env G' known wRest
  iintro ⟨HW, HL, HC, -, ⟨HK, HM⟩⟩
  ihave HC := (creds_intro (F := F) c) $$ HC
  ihave HW := (w_shares m c) $$ HW
  icases HW with ⟨HR, HS⟩
  imodintro
  isplitr [HR]
  · isplitl [HK HL]
    · isplitl [HK]; · iexact HK
      unfold levs; iexact HL
    isplitl [HM]; · iexact HM
    isplitl [HC]; · iexact HC
    iexact HS
  iexact HR

theorem scratch_eq (c : Dev nD) : (Pipeline.scopedRest cfg0.spec c : sProp 𝕄) = scratch c := by
  rw [scopedRest0_eq]; unfold scratch
  rw [any_whole, any_whole, any_whole, any_whole, any_whole]

theorem body_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem body_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scratch_eq]
  unfold finish
  exact .refl

/-- The arrays after the run. -/
def finalA (c : Dev nD) (w : Fin cfg0.W) : Buf (Elt F) ((cfg0.win w).arr.view.loc (c : Thread nD τ)) := (dats m ρ 0 c).arrAt w cfg0.N

/-- What a final state satisfies: the windows' arrays as computed, and `w` as it was. -/
def Final : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 100000 in
/-- On sixteen devices, from any memory with zero counters, every weakly fair execution ends; then the arrays hold what
    `Final` says and every counter is zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := wRest m)
    (hX := start_intro m ρ) (hin := body_in m ρ) (hout := body_out m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold wRest
      iintro ⟨Hu, HZ, HSI⟩
      icombine HSI HZ gives %h
      have hm := Buf.eq_of_forall_mem_univ h
      imod (Pipeline.unscopedSems0_read (X := unscopedSems0 c) (c := c) fupd_intro s') $$ [Hu HSI] with ⟨%hs, HSI⟩
      · isplitl [Hu] <;> iassumption
      imodintro
      isplitr
      · ipureintro; exact ⟨hs, hm⟩
      iexact HSI)
    (hQ := fun _ h hs => ⟨fun c => ⟨fun w => (h c).1 w, (h c).2.2.2⟩, sem_eq_zero hs fun c => (h c).2.2.1⟩)

/-- The rows of `x` are as they were, -/
theorem finalA_x (c : Dev nD) : finalA m ρ c (0 : Fin 2) = (s₀ m ρ).mem (win0_0.arr.view.loc (c : Thread nD τ)) :=
  (dats (F := F) m ρ 0 c).arrAt_in (0 : Fin 2) rfl _

/-- and the result is what the body left in its buffer. -/
theorem finalA_out (c : Dev nD) : finalA m ρ c (1 : Fin 2) = outv m c := by
  unfold finalA
  refine (dats (F := F) m ρ 0 c).arrAt_eq_of_after_last (1 : Fin 2) t₀ (by decide +kernel) _ fun j => ?_
  blk_simp
  rfl

/-- Each execution ends with the result on every device, the arguments as they were and every counter zero. -/
theorem run_result : θ_run defs (onTc (τ := τ) (main (F := F))) ⟨m, fun _ => 0, ρ⟩ (fun r => (∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).1 (1 : Fin 2)).trans (finalA_out m ρ c),
    ((h.1 c).1 (0 : Fin 2)).trans (finalA_x m ρ c), (h.1 c).2⟩, h.2⟩) (run_main m ρ)

end Cert.KernelIdealProof

end
-- ==== Proof.Value.Quant.lean ====
/-
# The quantiser on one number

The kernel multiplies by `448 / g` where the reference divides by `g / 448`, with `g` the greatest absolute value. On the
extended reals the two agree at every number of absolute value at most `g`, the corners `g = 0` and `g = ⊤` included.
-/
module

public import Idealize.ShloMosaic.PureOps.Ideal
public import Idealize.ShloMosaic.PureOps.Ideal.Laws

@[expose] public section

noncomputable section

namespace Cert.ProductValue

open Idealize.ShloMosaic

/-- The greatest number of the format; -/
theorem ofBits_448 : Ideal.ofBits .f32 0x43E00000#32 = ((448 : ℝ) : EReal) := by
  simp [Ideal.ofBits, Ideal.ieee]; norm_num; rw [← EReal.coe_mul]; norm_num

/-- the least. -/
theorem ofBits_neg_448 : Ideal.ofBits .f32 0xC3E00000#32 = ((-448 : ℝ) : EReal) := by
  simp [Ideal.ofBits, Ideal.ieee]; norm_num; rw [← EReal.coe_mul]; norm_num

theorem ofBits_bot : Ideal.ofBits .f32 0xFF800000#32 = (⊥ : EReal) := by
  simp [Ideal.ofBits, Ideal.ieee]

/-- A number held between the two, -/
def clip (t : EReal) : EReal := min ((448 : ℝ) : EReal) (max ((-448 : ℝ) : EReal) t)

/-- and a number `y` quantised by the scale `s`. -/
def quant (y s : EReal) : EReal := clip (Ideal.div y s) * s

theorem clip_zero : clip 0 = 0 := by
  unfold clip
  rw [← EReal.coe_zero, ← EReal.coe_strictMono.monotone.map_max, ← EReal.coe_strictMono.monotone.map_min]
  norm_num

/-- The factor `448 / g` does what division by `g / 448` does. -/
theorem quant_eq (y g : EReal) (hy : max y (-y) ≤ g) :
    clip (y * Ideal.div ((448 : ℝ) : EReal) g) * Ideal.div g ((448 : ℝ) : EReal) = quant y (Ideal.div g ((448 : ℝ) : EReal)) := by
  have h448 : ((448 : ℝ) : EReal) ≠ 0 := by exact_mod_cast (by norm_num : (448 : ℝ) ≠ 0)
  unfold quant
  induction g with
  | bot =>
    exfalso
    have h1 := (le_max_left y (-y)).trans hy
    have h2 := (le_max_right y (-y)).trans hy
    rw [le_bot_iff] at h1 h2
    subst h1
    simp at h2
  | top =>
    have e1 : Ideal.div ((448 : ℝ) : EReal) ⊤ = 0 := by
      unfold Ideal.div; rw [if_neg EReal.top_ne_zero, EReal.inv_top, mul_zero]
    have e2 : Ideal.div ⊤ ((448 : ℝ) : EReal) = ⊤ := by
      unfold Ideal.div; rw [if_neg h448, ← EReal.coe_inv, EReal.top_mul_coe_of_pos (by norm_num)]
    have e3 : Ideal.div y ⊤ = 0 := by
      unfold Ideal.div; rw [if_neg EReal.top_ne_zero, EReal.inv_top, mul_zero]
    rw [e1, e2, e3, mul_zero]
  | coe g =>
    by_cases hg : g = 0
    · subst hg
      have e : Ideal.div ((0 : ℝ) : EReal) ((448 : ℝ) : EReal) = 0 := by
        unfold Ideal.div; rw [if_neg h448, EReal.coe_zero, zero_mul]
      rw [e, mul_zero, mul_zero]
    · have hg' : ((g : ℝ) : EReal) ≠ 0 := by exact_mod_cast hg
      have e : Ideal.div ((g : ℝ) : EReal) ((448 : ℝ) : EReal) = ((g / 448 : ℝ) : EReal) := by
        unfold Ideal.div; rw [if_neg h448, ← EReal.coe_inv, ← EReal.coe_mul]; rfl
      have e' : Ideal.div ((448 : ℝ) : EReal) ((g : ℝ) : EReal) = ((448 / g : ℝ) : EReal) := by
        unfold Ideal.div; rw [if_neg hg', ← EReal.coe_inv, ← EReal.coe_mul]; rfl
      have hs : ((g / 448 : ℝ) : EReal) ≠ 0 := by exact_mod_cast (div_ne_zero hg (by norm_num : (448 : ℝ) ≠ 0))
      rw [e, e']
      congr 2
      unfold Ideal.div
      rw [if_neg hs, ← EReal.coe_inv, inv_div]

end Cert.ProductValue

end
-- ==== Proof.Value.Kernel.lean ====
/-
# What the kernel computes

Over the extended reals, from any arguments: the product's entries as the devices send them, the greatest absolute value as
each device finds it among the maxima, and the result as the product quantised by one scale.
-/
module

public import proofs.«01_k».proof.Proof.Ideal.State
public import proofs.«01_k».proof.Proof.Value.Quant
public import Idealize.ShloMosaic.Lib.Pointwise
public import Idealize.ShloMosaic.Lib.Pipeline.ValueKit

@[expose] public section

noncomputable section

namespace Cert.ProductValue

open Cert.KernelIdeal Cert.KernelIdeal.Gen Cert.KernelIdealProof
open Idealize.ShloMosaic Idealize.ShloMosaic.TcCoe

set_option maxRecDepth 16384

variable (m : (ℓ : Loc nD τ sig) → Buf (Elt Ideal) ℓ)

/-- Device `c`'s rows of `x` and its copy of `w`, -/
def xs (c : Dev nD) : S256x4096.Idx → EReal := m ((c : Thread nD τ).loc main_arg0)
def ws (c : Dev nD) : S4096x2048.Idx → EReal := m ((c : Thread nD τ).loc main_arg1)
/-- and the entry in its row `r` and the column `k` of the product. -/
def Y (c : Dev nD) (r : Fin 256) (k : Fin 2048) : EReal := ∑ i : Fin 4096, xs m c (ix2 r i) * ws m c (ix2 i k)

/-- The column `j` of the block that the device works on at step `t`. -/
def col (c : Dev nD) (t : ℕ) (j : Fin 128) : Fin 2048 :=
  ⟨(c.val + t + 1) % 16 * 128 + j.val, by have := Nat.mod_lt (c.val + t + 1) (show 0 < 16 by decide); omega⟩

theorem xstg_apply (c : Dev nD) (i : S256x4096.Idx) : (show S256x4096.Idx → EReal from xstg (F := Ideal) m c) i = xs m c i := by
  unfold xstg xs
  refine congrArg (m ((c : Thread nD τ).loc main_arg0)) ?_
  funext a; fin_cases a
  · exact Fin.ext (by show 0 * 256 + 1 * (i 0).val = (i 0).val; omega)
  · exact Fin.ext (by show 0 * 4096 + 1 * (i 1).val = (i 1).val; omega)

theorem wblk_apply (c : Dev nD) (t : ℕ) (i : Fin 4096) (j : Fin 128) : wblk (F := Ideal) m c t (ix2 i j) = ws m c (ix2 i (col c t j)) := by
  unfold wblk ws wArr
  refine congrArg (m ((c : Thread nD τ).loc main_arg1)) ?_
  funext a; fin_cases a
  · exact Fin.ext (by show 0 + 1 * i.val = i.val; omega)
  · exact Fin.ext (by show (c.val + t + 1) % 16 * 128 + 1 * j.val = (c.val + t + 1) % 16 * 128 + j.val; omega)

theorem wld_apply (c : Dev nD) (t : ℕ) (i : Fin 4096) (j : Fin 128) : wld (F := Ideal) m c t (ix3 0 i j) = ws m c (ix2 i (col c t j)) := by
  unfold wld
  rw [show (Shape.reshapeEquiv (Shape.Squeezes.numel_eq squeezes_S1x4096x128_S4096x128)).symm (ix3 0 i j) = ix2 i j from ?_, wblk_apply]
  rw [Equiv.symm_apply_eq]
  pointwise

theorem pay2_apply (x : FVec Ideal S256x4096 .bf16) (w : Vec Ideal S1x4096x128 .f32) (r : Fin 256) (j : Fin 128) :
    k0_pay2 x w (ix2 r j) = ∑ i : Fin 4096, x (ix2 r i) * w (ix3 0 i j) := by
  pointwise [k0_pay2]

theorem pay2_Y (c : Dev nD) (t : ℕ) (r : Fin 256) (j : Fin 128) :
    k0_pay2 (xb (F := Ideal) m c) (wld m c t) (ix2 r j) = Y m c r (col c t j) := by
  rw [pay2_apply]
  refine Finset.sum_congr rfl fun i _ => ?_
  rw [wld_apply]
  congr 1
  refine Eq.trans ?_ (xstg_apply m c (ix2 r i))
  unfold xb
  pointwise [k0_pay1]

/-- The block that the device sends at step `t`. -/
theorem yblk_apply (c : Dev nD) (t : ℕ) (r : Fin 256) (j : Fin 128) : yblk (F := Ideal) m c t (ix2 r j) = Y m c r (col c t j) := by
  refine Eq.trans ?_ (pay2_Y m c t r j)
  unfold yblk
  pointwise [k0_pay4]

/-! ## The maxima -/

/-- The absolute value. -/
def abs' (y : EReal) : EReal := max y (-y)

theorem pay3_le (c : Dev nD) (t : ℕ) (j : Fin 128) (b : EReal) :
    k0_pay3 (xb (F := Ideal) m c) (wld m c t) (ix2 0 j) ≤ b ↔ ∀ r : Fin 256, abs' (Y m c r (col c t j)) ≤ b := by
  have e : k0_pay3 (xb (F := Ideal) m c) (wld m c t) (ix2 0 j)
      = Finset.univ.fold max (Ideal.ofBits .f32 0xFF800000#32) fun r : Fin 256 => abs' (k0_pay2 (xb (F := Ideal) m c) (wld m c t) (ix2 r j)) := by
    pointwise [k0_pay3]; rfl
  rw [e, Finset.fold_max_le, ofBits_bot]
  simp only [pay2_Y, bot_le, true_and, Finset.mem_univ, forall_const]

theorem pay10_eq (x : FVec Ideal S256x4096 .bf16) (p : FVec Ideal S1x128 .f32) (w : Vec Ideal S1x4096x128 .f32) (j : Fin 128) :
    k0_pay10 x p w (ix2 0 j) = max (p (ix2 0 j)) (k0_pay3 x w (ix2 0 j)) := by
  pointwise [k0_pay10, k0_pay3]; rfl

theorem pay50_eq (x : FVec Ideal S256x4096 .bf16) (p : FVec Ideal S1x128 .f32) (w : Vec Ideal S1x4096x128 .f32) (j : Fin 128) :
    k0_pay50 x p w (ix2 0 j) = max (p (ix2 0 j)) (k0_pay3 x w (ix2 0 j)) := by
  pointwise [k0_pay50, k0_pay3]; rfl

/-- The columns' maxima after step `t` are the least bound of the absolute values so far. -/
theorem vmx_le (c : Dev nD) (t : ℕ) (j : Fin 128) (b : EReal) :
    vmx (F := Ideal) m c t (ix2 0 j) ≤ b ↔ ∀ u ≤ t, ∀ r : Fin 256, abs' (Y m c r (col c u j)) ≤ b := by
  induction t with
  | zero =>
    rw [show vmx (F := Ideal) m c 0 = k0_pay3 (xb m c) (wld m c 0) from rfl, pay3_le]
    simp only [Nat.le_zero, forall_eq]
  | succ t ih =>
    rw [show vmx (F := Ideal) m c (t + 1) = k0_pay10 (xb m c) (vmx m c t) (wld m c (t + 1)) from rfl, pay10_eq, max_le_iff, ih, pay3_le]
    constructor
    · rintro ⟨h, h'⟩ u hu
      rcases Nat.le_succ_iff.mp hu with hu | rfl
      · exact h u hu
      · exact h'
    · exact fun h => ⟨fun u hu => h u (Nat.le_succ_of_le hu), h _ le_rfl⟩

theorem amx_le (c : Dev nD) (a : Fin 8) (j : Fin 128) (b : EReal) :
    amx (F := Ideal) m c (ix2 a j) ≤ b ↔ ∀ u ≤ 15, ∀ r : Fin 256, abs' (Y m c r (col c u j)) ≤ b := by
  rw [← vmx_le, show amx (F := Ideal) m c (ix2 a j) = vmx (F := Ideal) m c 15 (ix2 0 j) from ?_]
  refine Eq.trans (?_ : _ = k0_pay50 (xb (F := Ideal) m c) (vmx m c 14) (wld m c 15) (ix2 0 j)) ?_
  · unfold amx; pointwise [k0_pay52]
  · rw [pay50_eq]; exact (pay10_eq _ _ _ _).symm

theorem amx3_apply (c : Dev nD) (a : Fin 8) (j : Fin 128) : amx3 (F := Ideal) m c (ix3 0 a j) = amx (F := Ideal) m c (ix2 a j) := by
  unfold amx3
  refine congrArg (amx (F := Ideal) m c) ?_
  rw [Equiv.symm_apply_eq]
  pointwise

theorem amxOwn_apply (c : Dev nD) (a : Fin 8) (j : Fin 128) : amxOwn (F := Ideal) m c (ix3 0 a j) = amx (F := Ideal) m c (ix2 a j) := by
  unfold amxOwn amx
  pointwise [k0_pay53, k0_pay52]

theorem amAt_apply (c : Dev nD) (d : Fin 16) (a : Fin 8) (j : Fin 128) :
    amAt (F := Ideal) m c d.val (ix3 0 a j) = amx (F := Ideal) m (peer c (16 - d.val)) (ix2 a j) := by
  unfold amAt
  split
  · rename_i h
    rw [amxOwn_apply, show peer c (16 - d.val) = c from Fin.ext (by have : c.val < 16 := c.isLt; rw [peer_val]; omega)]
  · exact amx3_apply m _ a j

theorem amFull_apply (c : Dev nD) (d : Fin 16) (a : Fin 8) (j : Fin 128) :
    amFull (F := Ideal) m c (ix3 d a j) = amx (F := Ideal) m (peer c (16 - d.val)) (ix2 a j) := by
  rw [← amAt_apply]
  refine Eq.trans (congrArg (amFull (F := Ideal) m c) ?_)
    (Rect.glue_emb (fun d : Fin 16 => amR d.val) am_cover am_disj (fun d => amAt (F := Ideal) m c d.val) d (ix3 0 a j))
  have hd := fin16_lt d
  funext i; fin_cases i
  · exact Fin.ext (by show d.val = d.val % 16 + 1 * 0; omega)
  · exact Fin.ext (by show a.val = 0 + 1 * a.val; omega)
  · exact Fin.ext (by show j.val = 0 + 1 * j.val; omega)

theorem pay54_le (f : Vec Ideal S16x8x128 .f32) (b : EReal) :
    k0_pay54 f ≤ b ↔ ∀ (d : Fin 16) (a : Fin 8) (j : Fin 128), f (ix3 d a j) ≤ b := by
  have e : k0_pay54 f = (Finset.univ.filter fun i => reduces_S1x16x8x128_S1.drop i = ix1 0).fold max (Ideal.ofBits .f32 0xFF800000#32)
      fun i => f (ix3 (i 1) (i 2) (i 3)) := by
    pointwise [k0_pay54]
  rw [e, Finset.fold_max_le, ofBits_bot]
  simp only [bot_le, true_and, Finset.mem_filter, Finset.mem_univ]
  constructor
  · intro h d a j
    exact h (ix4 0 d a j) (funext fun i => by fin_cases i; exact Fin.ext (Nat.lt_one_iff.mp (Fin.isLt _)))
  · intro h i _
    exact h _ _ _

/-- The greatest absolute value that a device finds among the maxima is the least bound of all absolute values. -/
theorem gmax_le (c : Dev nD) (b : EReal) :
    k0_pay54 (amFull (F := Ideal) m c) ≤ b ↔ ∀ (s : Dev nD) (r : Fin 256) (k : Fin 2048), abs' (Y m s r k) ≤ b := by
  rw [pay54_le]
  simp only [amFull_apply, amx_le]
  constructor
  · intro h s r k
    have hs : s.val < 16 := s.isLt
    have hc : c.val < 16 := c.isLt
    have hk := k.isLt
    have := h ⟨(c.val + 16 - s.val) % 16, Nat.mod_lt _ (by decide)⟩ 0 ⟨k.val % 128, Nat.mod_lt _ (by decide)⟩
      ((k.val / 128 + 31 - s.val) % 16) (by omega) r
    rw [show peer c (16 - (c.val + 16 - s.val) % 16) = s from Fin.ext (by rw [peer_val]; omega)] at this
    rw [show col s ((k.val / 128 + 31 - s.val) % 16) ⟨k.val % 128, Nat.mod_lt _ (by decide)⟩ = k from
      Fin.ext (by show (s.val + (k.val / 128 + 31 - s.val) % 16 + 1) % 16 * 128 + k.val % 128 = k.val; omega)] at this
    exact this
  · intro h d a j u _ r
    exact h _ r _

/-! ## The result -/

/-- The column `j` of device `c`'s block, -/
def own (c : Dev nD) (j : Fin 128) : Fin 2048 := ⟨c.val * 128 + j.val, by have : c.val < 16 := c.isLt; omega⟩

/-- and what the device holds in it before the quantiser: the product's entries, of each device's rows in turn. -/
theorem rcvFull_apply (c s : Dev nD) (r : Fin 256) (j : Fin 128) (h : s.val * 256 + r.val < 4096) :
    rcvFull (F := Ideal) m c (ix2 ⟨s.val * 256 + r.val, h⟩ j) = Y m s r (own c j) := by
  have hs : s.val < 16 := s.isLt
  have hc : c.val < 16 := c.isLt
  refine (congrArg (rcvFull (F := Ideal) m c) ?_).trans
    ((Rect.glue_emb (fun d : Fin 16 => rcvR d.val) rcv_cover rcv_disj (fun d => yfor (F := Ideal) m ⟨d.val, d.isLt⟩ c) s (ix2 r j)).trans ?_)
  · have hd : s.val % 16 = s.val := Nat.mod_eq_of_lt hs
    funext i; fin_cases i
    · exact Fin.ext (by show s.val * 256 + r.val = s.val % 16 * 256 + 1 * r.val; omega)
    · exact Fin.ext (by show j.val = 0 + 1 * j.val; omega)
  · show yfor (F := Ideal) m s c (ix2 r j) = _
    unfold yfor
    rw [yblk_apply, show col s ((c.val + 31 - s.val) % 16) j = own c j from
      Fin.ext (by show (s.val + (c.val + 31 - s.val) % 16 + 1) % 16 * 128 + j.val = c.val * 128 + j.val; omega)]

theorem pay57_apply (f : Vec Ideal S16x8x128 .f32) (a : FVec Ideal S4096x128 .bf16) (i : S4096x128.Idx) :
    k0_pay57 (k0_pay55 f) (k0_pay56 f) a i
      = clip (a i * Ideal.div ((448 : ℝ) : EReal) (k0_pay54 f)) * Ideal.div (k0_pay54 f) ((448 : ℝ) : EReal) := by
  rw [← ofBits_448]
  unfold clip
  rw [← ofBits_448, ← ofBits_neg_448]
  pointwise [k0_pay57, k0_pay55, k0_pay56]

/-- The greatest absolute value, -/
def gmax : EReal := k0_pay54 (amFull (F := Ideal) m 0)

/-- which all devices find alike; -/
theorem gmax_eq (c : Dev nD) : k0_pay54 (amFull (F := Ideal) m c) = gmax m :=
  le_antisymm ((gmax_le m c _).mpr ((gmax_le m 0 _).mp le_rfl)) ((gmax_le m 0 _).mpr ((gmax_le m c _).mp le_rfl))

theorem gmax_le' (b : EReal) : gmax m ≤ b ↔ ∀ (s : Dev nD) (r : Fin 256) (k : Fin 2048), abs' (Y m s r k) ≤ b := gmax_le m 0 b

/-- the result: the product's entry quantised by the one scale. -/
theorem outv_apply (c s : Dev nD) (r : Fin 256) (j : Fin 128) (h : s.val * 256 + r.val < 4096) :
    outv (F := Ideal) m c (ix2 ⟨s.val * 256 + r.val, h⟩ j) = quant (Y m s r (own c j)) (Ideal.div (gmax m) ((448 : ℝ) : EReal)) := by
  unfold outv
  rw [pay57_apply, gmax_eq, rcvFull_apply]
  exact quant_eq _ _ ((gmax_le' m _).mp le_rfl s r (own c j))

end Cert.ProductValue
-- ==== Proof.Value.Reference.lean ====
/-
# What the reference computes

Over the extended reals: the product, its greatest absolute value, and the product quantised by that value over 448.
-/
module

public import proofs.«01_k».proof.Proof.Gen.ReferenceIdeal.Value
public import proofs.«01_k».proof.Proof.Value.Quant
public import Idealize.ShloMosaic.Lib.Pointwise
public import Idealize.ShloMosaic.Lib.Pipeline.ValueKit

@[expose] public section

noncomputable section

namespace Cert.ProductValue.Ref

open Cert.ReferenceIdeal Cert.ReferenceIdeal.Gen
open Idealize.ShloMosaic Idealize.ShloMosaic.TcCoe

set_option maxRecDepth 16384

variable (m : (ℓ : Loc nD τ sig) → Buf (Elt Ideal) ℓ)

/-- `x` and `w`, -/
def X : S4096x4096.Idx → EReal := m (((0 : Dev nD) : Thread nD τ).loc main_arg0)
def W : S4096x2048.Idx → EReal := m (((0 : Dev nD) : Thread nD τ).loc main_arg1)
/-- their product, -/
def prod (i : Fin 4096) (k : Fin 2048) : EReal := ∑ l : Fin 4096, X m (ix2 i l) * W m (ix2 l k)
/-- its greatest absolute value. -/
def gmax : EReal := Finset.univ.fold max ⊥ fun i : Fin 4096 × Fin 2048 => max (prod m i.1 i.2) (-(prod m i.1 i.2))

/-- It is the least bound of the absolute values. -/
theorem gmax_le (b : EReal) : gmax m ≤ b ↔ ∀ (i : Fin 4096) (k : Fin 2048), max (prod m i k) (-(prod m i k)) ≤ b := by
  unfold gmax
  rw [Finset.fold_max_le]
  simp only [bot_le, true_and, Finset.mem_univ, forall_const, Prod.forall]

theorem V_prod (i : Fin 4096) (k : Fin 2048) : (V m (0 : Dev nD) main_v0 : S4096x2048.Idx → EReal) (ix2 i k) = prod m i k := by
  unfold prod X W
  unfold_abbrev_sides
  after_results
  pointwise

theorem V_scale : (V m (0 : Dev nD) main_v4 : S1x1.Idx → EReal) (ix2 0 0) = Ideal.div (gmax m) ((448 : ℝ) : EReal) := by
  unfold_abbrev_sides
  after_results
  pointwise
  rw [ofBits_bot, ofBits_448]
  rfl

/-- The blocks that the quantiser finds are the two arrays. -/
theorem iblk_prod (j : S4096x2048.Idx) : iblk m (0 : Dev nD) 0 t0_0 j = V m (0 : Dev nD) main_v0 j := by
  unfold iblk
  exact congrArg (V m (0 : Dev nD) main_v0) (funext fun a => by
    fin_cases a
    · exact Fin.ext (by show 0 * 4096 + 1 * (j 0).val = (j 0).val; omega)
    · exact Fin.ext (by show 0 * 2048 + 1 * (j 1).val = (j 1).val; omega))

theorem iblk_scale (j : S1x1.Idx) : iblk m (0 : Dev nD) 1 t0_0 j = V m (0 : Dev nD) main_v4 j := by
  unfold iblk
  exact congrArg (V m (0 : Dev nD) main_v4) (funext fun a => by
    fin_cases a
    · exact Fin.ext (by show 0 * 1 + 1 * (j 0).val = (j 0).val; omega)
    · exact Fin.ext (by show 0 * 1 + 1 * (j 1).val = (j 1).val; omega))

theorem pay1_apply (s : Vec Ideal S1x1 .f32) (y : Vec Ideal S4096x2048 .f32) (j : S4096x2048.Idx) :
    k0_pay1 s y j = quant (y j) (s (ix2 0 0)) := by
  unfold quant clip
  rw [← ofBits_448, ← ofBits_neg_448]
  pointwise [k0_pay1]

theorem result_apply (i : Fin 4096) (k : Fin 2048) :
    ((dats m 0 (0 : Dev nD)).arrAt 2 cfg0.N : S4096x2048.Idx → EReal) (ix2 i k) = quant (prod m i k) (Ideal.div (gmax m) ((448 : ℝ) : EReal)) := by
  rw [← V_prod, ← V_scale]
  revert i k
  suffices h : (dats m 0 (0 : Dev nD)).arrAt 2 cfg0.N = (fun j => quant ((V m (0 : Dev nD) main_v0 : S4096x2048.Idx → EReal) j) ((V m (0 : Dev nD) main_v4 : S1x1.Idx → EReal) (ix2 0 0)) : S4096x2048.Idx → EReal) by
    intro i k; rw [h]
  refine (dats m 0 (0 : Dev nD)).arrAt_eq_of_after_last 2 t0_0 (by decide +kernel) _ fun j => ?_
  blk_simp
  rw [after0_2]
  frame_out
  exact (pay1_apply _ _ _).trans (congrArg₂ quant (iblk_prod m _) (iblk_scale m _))

end Cert.ProductValue.Ref
-- ==== Proof.Value.Agree.lean ====
/-
# The kernel's result is the reference's

When each device holds its rows of the reference's `x` and a copy of its `w`: the two products have the same entries, so the
two greatest absolute values are one, and each device's result is its block of columns of the reference's.
-/
module

public import proofs.«01_k».proof.Proof.Value.Kernel
public import proofs.«01_k».proof.Proof.Value.Reference
public import Idealize.ShloMosaic.Lib.Layout

@[expose] public section

noncomputable section

namespace Cert.ProductValue

open Cert.KernelIdealProof
open Idealize.ShloMosaic Idealize.ShloMosaic.TcCoe

set_option maxRecDepth 16384

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Each device holds its rows of the reference's `x` and a copy of its `w`. -/
def Given : Prop := ∀ c : Dev Cert.KernelIdeal.nD,
  xs m c = Layout.block ⟨2, ![256, 4096]⟩ ⟨2, ![4096, 4096]⟩ 0 16 c (Ref.X m') ∧ ws m c = Ref.W m'

variable {m m'}

theorem Y_eq (hg : Given m m') (s : Dev Cert.KernelIdeal.nD) (r : Fin 256) (k : Fin 2048) (h : s.val * 256 + r.val < 4096) :
    Y m s r k = Ref.prod m' ⟨s.val * 256 + r.val, h⟩ k := by
  unfold Y Ref.prod
  refine Finset.sum_congr rfl fun i _ => ?_
  rw [(hg s).1, (hg s).2]
  refine congrArg (· * Ref.W m' (ix2 i k)) ?_
  rw [Layout.block_apply]
  refine congrArg (Ref.X m') ?_
  funext a; fin_cases a
  · exact Fin.ext rfl
  · exact Fin.ext rfl

theorem gmax_agree (hg : Given m m') : gmax m = Ref.gmax m' := by
  refine le_antisymm ((gmax_le' m _).mpr fun s r k => ?_) ((Ref.gmax_le m' _).mpr fun i k => ?_)
  · have hs : s.val < 16 := s.isLt
    rw [Y_eq hg s r k (by omega)]
    exact (Ref.gmax_le m' _).mp le_rfl _ k
  · have hi := i.isLt
    have h := (gmax_le' m _).mp le_rfl (⟨i.val / 256, by show i.val / 256 < 16; omega⟩ : Dev Cert.KernelIdeal.nD) ⟨i.val % 256, by omega⟩ k
    rw [Y_eq hg _ _ k (by show i.val / 256 * 256 + i.val % 256 < 4096; omega)] at h
    rw [show i = ⟨i.val / 256 * 256 + i.val % 256, by omega⟩ from Fin.ext (by show i.val = i.val / 256 * 256 + i.val % 256; omega)]
    exact h

theorem outv_eq (hg : Given m m') (c : Dev Cert.KernelIdeal.nD) :
    outv (F := Ideal) m c = Layout.block ⟨2, ![4096, 128]⟩ ⟨2, ![4096, 2048]⟩ 1 16 c
      ((Cert.ReferenceIdeal.Gen.dats m' 0 (0 : Dev Cert.ReferenceIdeal.nD)).arrAt 2 Cert.ReferenceIdeal.cfg0.N : Cert.ReferenceIdeal.S4096x2048.Idx → EReal) := by
  funext i
  have h0 : (i 0).val < 4096 := (i 0).isLt
  let s : Dev Cert.KernelIdeal.nD := ⟨(i 0).val / 256, by show (i 0).val / 256 < 16; omega⟩
  let r : Fin 256 := ⟨(i 0).val % 256, by omega⟩
  have hsr : s.val * 256 + r.val = (i 0).val := by show (i 0).val / 256 * 256 + (i 0).val % 256 = (i 0).val; omega
  have hlt : s.val * 256 + r.val < 4096 := by omega
  have hi : i = ix2 ⟨s.val * 256 + r.val, hlt⟩ (i 1) := by
    funext a; fin_cases a
    · exact Fin.ext hsr.symm
    · rfl
  refine (congrArg (outv (F := Ideal) m c) hi).trans ((outv_apply m c s r (i 1) hlt).trans ?_)
  rw [Y_eq hg s r _ hlt, gmax_agree hg, Layout.block_apply]
  refine (Ref.result_apply m' _ _).symm.trans (congrArg _ ?_)
  funext a; fin_cases a
  · exact Fin.ext hsr
  · exact Fin.ext rfl

end Cert.ProductValue
-- ==== Proof.lean ====
/-
# The certificate

The kernel's runs are in `Ideal/Launch` (over the extended reals) and `Bits/Launch` (over the words of the format); the
reference's is generated. `Value/Agree` compares the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Frame
public import proofs.«01_k».proof.Proof.Gen.ReferenceIdeal.Value
public import proofs.«01_k».proof.Proof.Bits.Launch
public import proofs.«01_k».proof.Proof.Ideal.Launch
public import proofs.«01_k».proof.Proof.Value.Agree
public import Idealize.ShloMosaic.Adequacy
public import Idealize.ShloMosaic.Init

@[expose] public section

noncomputable section

namespace Cert.Proof

open Idealize.ShloMosaic Idealize.SL.Sem

theorem quiescent_kernel : Cert.quiescent_Kernel (hKernel := Cert.Kernel.Gen.facts) := fun m g _ =>
  (θ_run _ _ _).mono (fun _ h => ⟨fun c => (h.1 c).2, h.2⟩) (Cert.KernelProof.run_result (F := Bits) m g)

theorem quiescent_kernelIdeal : Cert.quiescent_KernelIdeal (hKernelIdeal := Cert.KernelIdeal.Gen.facts) := fun m g _ =>
  (θ_run _ _ _).mono (fun _ h => ⟨fun c => (h.1 c).2, h.2⟩) (Cert.KernelIdealProof.run_result (F := Ideal) m g)

theorem algebraic : Cert.algebraic_KernelIdeal_ReferenceIdeal (hKernelIdeal := Cert.KernelIdeal.Gen.facts)
    (hReferenceIdeal := Cert.ReferenceIdeal.Gen.facts) := fun m g m' g' _ hg =>
  ⟨(Cert.ReferenceIdeal.Gen.dats m' 0 (0 : Dev Cert.ReferenceIdeal.nD)).arrAt 2 Cert.ReferenceIdeal.cfg0.N,
    (θ_run _ _ _).mono (fun _ h c => ⟨(h.1 c).1.trans (Cert.ProductValue.outv_eq (m := m) (m' := m') hg c), (h.1 c).2⟩)
      (Cert.KernelIdealProof.run_result (F := Ideal) m g),
    (θ_run _ _ _).mono (fun _ h => h 0) (Cert.ReferenceIdeal.Value.run_blocks (F := Ideal) m' g')⟩

theorem claim : Cert.Claim := ⟨Cert.Kernel.Gen.facts, Cert.KernelIdeal.Gen.facts, Cert.ReferenceIdeal.Gen.facts,
  quiescent_kernel, quiescent_kernelIdeal, fun m g _ => Cert.ReferenceIdeal.Gen.frame m g, trivial, algebraic⟩

end Cert.Proof

end
